-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  True

def algebraic_KernelIdeal_ReferenceIdeal_on_gated_part [hKernelIdeal : Cert.KernelIdeal.Facts] [hReferenceIdeal : Cert.ReferenceIdeal.Facts] [hOn_gated_part : Cert.On_gated_part.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v61_0)) (v1 : (c : Dev Cert.KernelIdeal.nD) → Buf (Elt Ideal) ((c.tc : Thread Cert.KernelIdeal.nD Cert.KernelIdeal.τ).loc Cert.KernelIdeal.main_v61_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![32768, 1024]⟩ : Shape).Idx, (Cert.On_gated_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.KernelIdeal.nD Cert.KernelIdeal.τ).loc Cert.KernelIdeal.main_v61_0) i = v0 c i)
          ∧ (∀ i : (⟨2, ![32768, 1024]⟩ : Shape).Idx, (Cert.On_gated_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.KernelIdeal.nD Cert.KernelIdeal.τ).loc Cert.KernelIdeal.main_v61_1) i = v1 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![32768, 1024]⟩ : Shape).Idx, (Cert.On_gated_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 i = 1#1 → r.2.mem ((c.tc : Thread Cert.ReferenceIdeal.nD Cert.ReferenceIdeal.τ).loc Cert.ReferenceIdeal.main_v177) i = v0 c i)
          ∧ (∀ i : (⟨2, ![32768, 1024]⟩ : Shape).Idx, (Cert.On_gated_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 i = 1#1 → r.2.mem ((c.tc : Thread Cert.ReferenceIdeal.nD Cert.ReferenceIdeal.τ).loc Cert.ReferenceIdeal.main_v179) i = v1 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v32) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v30) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hOn_gated_part : Cert.On_gated_part.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_on_gated_part (hKernelIdeal := hKernelIdeal) (hReferenceIdeal := hReferenceIdeal) (hOn_gated_part := hOn_gated_part)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== On_gated_part.lean ====
abbrev S32768x7168 : Shape := ⟨2, ![32768, 7168]⟩
abbrev S32768x512 : Shape := ⟨2, ![32768, 512]⟩
abbrev S1024 : Shape := ⟨1, ![1024]⟩
abbrev S_ : Shape := ⟨0, ![]⟩
abbrev S32768x1024 : Shape := ⟨2, ![32768, 1024]⟩

class Facts : Prop where
  bcast_S_S32768x1024 : S_.BroadcastsInDim S32768x1024 (![] : Fin 0 → Fin S32768x1024.rank)

variable [Facts]

def fn {F : FTy → Type} [FloatOps F] (main_arg0 : FVec F S32768x7168 .bf16) (main_arg1 : FVec F S32768x512 .f32) (main_arg2 : FVec F S1024 .f32) (main_arg3 : FVec F S1024 .f32) : IVec S32768x1024 1 × IVec S32768x1024 1 :=
  let main_c : IVec S_ 1 := constantI S_ 1 0#1
  let main_v0 : IVec S32768x1024 1 := broadcastInDim S32768x1024 ![] bcast_S_S32768x1024 main_c
  let main_c_0 : IVec S_ 1 := constantI S_ 1 1#1
  let main_v1 : IVec S32768x1024 1 := broadcastInDim S32768x1024 ![] bcast_S_S32768x1024 main_c_0
  (main_v0, main_v1)
-- ==== Kernel.lean ====
abbrev S32768x7168 : Shape := ⟨2, ![32768, 7168]⟩
abbrev S32768x512 : Shape := ⟨2, ![32768, 512]⟩
abbrev S1024 : Shape := ⟨1, ![1024]⟩
abbrev S4 : Shape := ⟨1, ![4]⟩
abbrev S_ : Shape := ⟨0, ![]⟩
abbrev S256 : Shape := ⟨1, ![256]⟩
abbrev S256x1 : Shape := ⟨2, ![256, 1]⟩
abbrev S1x256 : Shape := ⟨2, ![1, 256]⟩
abbrev S256x256 : Shape := ⟨2, ![256, 256]⟩
abbrev S4x1x1 : Shape := ⟨3, ![4, 1, 1]⟩
abbrev S1x256x256 : Shape := ⟨3, ![1, 256, 256]⟩
abbrev S4x256x256 : Shape := ⟨3, ![4, 256, 256]⟩
abbrev S4x1 : Shape := ⟨2, ![4, 1]⟩
abbrev S4x256 : Shape := ⟨2, ![4, 256]⟩
abbrev S4x256x1 : Shape := ⟨3, ![4, 256, 1]⟩
abbrev S4x1x256 : Shape := ⟨3, ![4, 1, 256]⟩
abbrev S1x1024 : Shape := ⟨2, ![1, 1024]⟩
abbrev S32768x1024 : Shape := ⟨2, ![32768, 1024]⟩
abbrev S4096x256 : Shape := ⟨2, ![4096, 256]⟩
abbrev S4096x128 : Shape := ⟨2, ![4096, 128]⟩
abbrev S1x1x256 : Shape := ⟨3, ![1, 1, 256]⟩
abbrev S256x128 : Shape := ⟨2, ![256, 128]⟩
abbrev S64x64 : Shape := ⟨2, ![64, 64]⟩
abbrev S64x128 : Shape := ⟨2, ![64, 128]⟩
abbrev S1x128 : Shape := ⟨2, ![1, 128]⟩
abbrev S64x256 : Shape := ⟨2, ![64, 256]⟩
abbrev S64 : Shape := ⟨1, ![64]⟩
abbrev S64x1 : Shape := ⟨2, ![64, 1]⟩

abbrev nBuf : Space → Nat
  | .hbm => 128
  | .vmem => 36
  | .smem => 0
  | _ => 0

abbrev bufTy : (tb : Table) → Fin (tcTables nBuf tb) → BufTy
  | .hbm, ⟨0, _⟩ => ⟨S32768x7168, .bf16⟩
  | .hbm, ⟨1, _⟩ => ⟨S32768x512, .f32⟩
  | .hbm, ⟨2, _⟩ => ⟨S1024, .f32⟩
  | .hbm, ⟨3, _⟩ => ⟨S1024, .f32⟩
  | .hbm, ⟨4, _⟩ => ⟨S4, .f32⟩
  | .hbm, ⟨5, _⟩ => ⟨S_, .f32⟩
  | .hbm, ⟨6, _⟩ => ⟨S4, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .f32⟩
  | .hbm, ⟨14, _⟩ => ⟨S256, .f32⟩
  | .hbm, ⟨15, _⟩ => ⟨S256x1, .f32⟩
  | .hbm, ⟨16, _⟩ => ⟨S1x256, .f32⟩
  | .hbm, ⟨17, _⟩ => ⟨S256x256, .f32⟩
  | .hbm, ⟨18, _⟩ => ⟨S256x256, .f32⟩
  | .hbm, ⟨19, _⟩ => ⟨S256x256, .f32⟩
  | .hbm, ⟨20, _⟩ => ⟨S256x1, .f32⟩
  | .hbm, ⟨21, _⟩ => ⟨S_, .i32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S_, .f32⟩
  | .hbm, ⟨26, _⟩ => ⟨S_, .i1⟩
  | .hbm, ⟨27, _⟩ => ⟨S256x1, .f32⟩
  | .hbm, ⟨28, _⟩ => ⟨S256x1, .f32⟩
  | .hbm, ⟨29, _⟩ => ⟨S256x1, .f32⟩
  | .hbm, ⟨30, _⟩ => ⟨S256x1, .f32⟩
  | .hbm, ⟨31, _⟩ => ⟨S_, .f32⟩
  | .hbm, ⟨32, _⟩ => ⟨S256x1, .f32⟩
  | .hbm, ⟨33, _⟩ => ⟨S256x1, .i1⟩
  | .hbm, ⟨34, _⟩ => ⟨S_, .f32⟩
  | .hbm, ⟨35, _⟩ => ⟨S256x1, .f32⟩
  | .hbm, ⟨36, _⟩ => ⟨S256x1, .f32⟩
  | .hbm, ⟨37, _⟩ => ⟨S256x1, .i1⟩
  | .hbm, ⟨38, _⟩ => ⟨S256x1, .i1⟩
  | .hbm, ⟨39, _⟩ => ⟨S256x1, .f32⟩
  | .hbm, ⟨40, _⟩ => ⟨S256x1, .f32⟩
  | .hbm, ⟨41, _⟩ => ⟨S256x1, .f32⟩
  | .hbm, ⟨42, _⟩ => ⟨S_, .f32⟩
  | .hbm, ⟨43, _⟩ => ⟨S256x1, .f32⟩
  | .hbm, ⟨44, _⟩ => ⟨S256x1, .f32⟩
  | .hbm, ⟨45, _⟩ => ⟨S256x1, .f32⟩
  | .hbm, ⟨46, _⟩ => ⟨S256x1, .f32⟩
  | .hbm, ⟨47, _⟩ => ⟨S1x256, .f32⟩
  | .hbm, ⟨48, _⟩ => ⟨S_, .i32⟩
  | .hbm, ⟨49, _⟩ => ⟨S_, .f32⟩
  | .hbm, ⟨50, _⟩ => ⟨S1x256, .f32⟩
  | .hbm, ⟨51, _⟩ => ⟨S1x256, .f32⟩
  | .hbm, ⟨52, _⟩ => ⟨S_, .f32⟩
  | .hbm, ⟨53, _⟩ => ⟨S_, .i1⟩
  | .hbm, ⟨54, _⟩ => ⟨S1x256, .f32⟩
  | .hbm, ⟨55, _⟩ => ⟨S1x256, .f32⟩
  | .hbm, ⟨56, _⟩ => ⟨S1x256, .f32⟩
  | .hbm, ⟨57, _⟩ => ⟨S1x256, .f32⟩
  | .hbm, ⟨58, _⟩ => ⟨S_, .f32⟩
  | .hbm, ⟨59, _⟩ => ⟨S1x256, .f32⟩
  | .hbm, ⟨60, _⟩ => ⟨S1x256, .i1⟩
  | .hbm, ⟨61, _⟩ => ⟨S_, .f32⟩
  | .hbm, ⟨62, _⟩ => ⟨S1x256, .f32⟩
  | .hbm, ⟨63, _⟩ => ⟨S1x256, .f32⟩
  | .hbm, ⟨64, _⟩ => ⟨S1x256, .i1⟩
  | .hbm, ⟨65, _⟩ => ⟨S1x256, .i1⟩
  | .hbm, ⟨66, _⟩ => ⟨S1x256, .f32⟩
  | .hbm, ⟨67, _⟩ => ⟨S1x256, .f32⟩
  | .hbm, ⟨68, _⟩ => ⟨S1x256, .f32⟩
  | .hbm, ⟨69, _⟩ => ⟨S_, .f32⟩
  | .hbm, ⟨70, _⟩ => ⟨S1x256, .f32⟩
  | .hbm, ⟨71, _⟩ => ⟨S1x256, .f32⟩
  | .hbm, ⟨72, _⟩ => ⟨S1x256, .f32⟩
  | .hbm, ⟨73, _⟩ => ⟨S1x256, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S_, .f32⟩
  | .hbm, ⟨78, _⟩ => ⟨S256x256, .f32⟩
  | .hbm, ⟨79, _⟩ => ⟨S256x256, .i1⟩
  | .hbm, ⟨80, _⟩ => ⟨S256x256, .f32⟩
  | .hbm, ⟨81, _⟩ => ⟨S256x256, .f32⟩
  | .hbm, ⟨82, _⟩ => ⟨S_, .f32⟩
  | .hbm, ⟨83, _⟩ => ⟨S256x256, .f32⟩
  | .hbm, ⟨84, _⟩ => ⟨S256x256, .i1⟩
  | .hbm, ⟨85, _⟩ => ⟨S4x1x1, .f32⟩
  | .hbm, ⟨86, _⟩ => ⟨S1x256x256, .f32⟩
  | .hbm, ⟨87, _⟩ => ⟨S4x256x256, .f32⟩
  | .hbm, ⟨88, _⟩ => ⟨S4x256x256, .f32⟩
  | .hbm, ⟨89, _⟩ => ⟨S4x256x256, .f32⟩
  | .hbm, ⟨90, _⟩ => ⟨S4x256x256, .f32⟩
  | .hbm, ⟨91, _⟩ => ⟨S_, .f32⟩
  | .hbm, ⟨92, _⟩ => ⟨S_, .f32⟩
  | .hbm, ⟨93, _⟩ => ⟨S4x256x256, .i1⟩
  | .hbm, ⟨94, _⟩ => ⟨S4x256x256, .f32⟩
  | .hbm, ⟨95, _⟩ => ⟨S4x256x256, .f32⟩
  | .hbm, ⟨96, _⟩ => ⟨S4x1, .f32⟩
  | .hbm, ⟨97, _⟩ => ⟨S_, .f32⟩
  | .hbm, ⟨98, _⟩ => ⟨S256, .f32⟩
  | .hbm, ⟨99, _⟩ => ⟨S256, .f32⟩
  | .hbm, ⟨100, _⟩ => ⟨S1x256, .f32⟩
  | .hbm, ⟨101, _⟩ => ⟨S4x256, .f32⟩
  | .hbm, ⟨102, _⟩ => ⟨S4x256, .f32⟩
  | .hbm, ⟨103, _⟩ => ⟨S4x256, .f32⟩
  | .hbm, ⟨104, _⟩ => ⟨S4x256, .f32⟩
  | .hbm, ⟨105, _⟩ => ⟨S4x1, .f32⟩
  | .hbm, ⟨106, _⟩ => ⟨S_, .f32⟩
  | .hbm, ⟨107, _⟩ => ⟨S256, .f32⟩
  | .hbm, ⟨108, _⟩ => ⟨S256, .f32⟩
  | .hbm, ⟨109, _⟩ => ⟨S1x256, .f32⟩
  | .hbm, ⟨110, _⟩ => ⟨S4x256, .f32⟩
  | .hbm, ⟨111, _⟩ => ⟨S4x256, .f32⟩
  | .hbm, ⟨112, _⟩ => ⟨S4x256, .f32⟩
  | .hbm, ⟨113, _⟩ => ⟨S4x256, .f32⟩
  | .hbm, ⟨114, _⟩ => ⟨S_, .f32⟩
  | .hbm, ⟨115, _⟩ => ⟨S4, .f32⟩
  | .hbm, ⟨116, _⟩ => ⟨S4, .f32⟩
  | .hbm, ⟨117, _⟩ => ⟨S4, .f32⟩
  | .hbm, ⟨118, _⟩ => ⟨S4x256x1, .f32⟩
  | .hbm, ⟨119, _⟩ => ⟨S4x256x256, .f32⟩
  | .hbm, ⟨120, _⟩ => ⟨S4x256x1, .f32⟩
  | .hbm, ⟨121, _⟩ => ⟨S4x256x256, .f32⟩
  | .hbm, ⟨122, _⟩ => ⟨S4x1x1, .f32⟩
  | .hbm, ⟨123, _⟩ => ⟨S4x1x256, .f32⟩
  | .hbm, ⟨124, _⟩ => ⟨S1x1024, .f32⟩
  | .hbm, ⟨125, _⟩ => ⟨S1x1024, .f32⟩
  | .hbm, ⟨126, _⟩ => ⟨S32768x1024, .bf16⟩
  | .hbm, ⟨127, _⟩ => ⟨S32768x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x256, .bf16⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S4096x256, .bf16⟩
  | .local _ .vmem, ⟨8, _⟩ => ⟨S4096x128, .bf16⟩
  | .local _ .vmem, ⟨9, _⟩ => ⟨S4096x128, .bf16⟩
  | .local _ .vmem, ⟨10, _⟩ => ⟨S4096x128, .bf16⟩
  | .local _ .vmem, ⟨11, _⟩ => ⟨S4096x128, .bf16⟩
  | .local _ .vmem, ⟨12, _⟩ => ⟨S4096x256, .bf16⟩
  | .local _ .vmem, ⟨13, _⟩ => ⟨S4096x256, .bf16⟩
  | .local _ .vmem, ⟨14, _⟩ => ⟨S4096x256, .bf16⟩
  | .local _ .vmem, ⟨15, _⟩ => ⟨S4096x256, .bf16⟩
  | .local _ .vmem, ⟨16, _⟩ => ⟨S4096x128, .f32⟩
  | .local _ .vmem, ⟨17, _⟩ => ⟨S4096x128, .f32⟩
  | .local _ .vmem, ⟨18, _⟩ => ⟨S1x256x256, .f32⟩
  | .local _ .vmem, ⟨19, _⟩ => ⟨S1x256x256, .f32⟩
  | .local _ .vmem, ⟨20, _⟩ => ⟨S1x256x256, .f32⟩
  | .local _ .vmem, ⟨21, _⟩ => ⟨S1x256x256, .f32⟩
  | .local _ .vmem, ⟨22, _⟩ => ⟨S1x256x256, .f32⟩
  | .local _ .vmem, ⟨23, _⟩ => ⟨S1x256x256, .f32⟩
  | .local _ .vmem, ⟨24, _⟩ => ⟨S1x1x256, .f32⟩
  | .local _ .vmem, ⟨25, _⟩ => ⟨S1x1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S4096x256, .bf16⟩
  | .local _ .vmem, ⟨31, _⟩ => ⟨S4096x256, .bf16⟩
  | .local _ .vmem, ⟨32, _⟩ => ⟨S4096x256, .bf16⟩
  | .local _ .vmem, ⟨33, _⟩ => ⟨S4096x256, .bf16⟩
  | .local _ .vmem, ⟨34, _⟩ => ⟨S256x256, .f32⟩
  | .local _ .vmem, ⟨35, _⟩ => ⟨S256x128, .f32⟩
  | _, _ => ⟨S32768x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_call0_cst : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_cst_0 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_v15 : Ref sig .tc := ⟨.hbm, 39, rfl⟩
abbrev main_call0_v16 : Ref sig .tc := ⟨.hbm, 40, rfl⟩
abbrev main_call0_v17 : Ref sig .tc := ⟨.hbm, 41, rfl⟩
abbrev main_call0_cst_1 : Ref sig .tc := ⟨.hbm, 42, rfl⟩
abbrev main_call0_v18 : Ref sig .tc := ⟨.hbm, 43, rfl⟩
abbrev main_call0_v19 : Ref sig .tc := ⟨.hbm, 44, rfl⟩
abbrev main_call0_v20 : Ref sig .tc := ⟨.hbm, 45, rfl⟩
abbrev main_v15 : Ref sig .tc := ⟨.hbm, 46, rfl⟩
abbrev main_v16 : Ref sig .tc := ⟨.hbm, 47, rfl⟩
abbrev main_c_1 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_cst : Ref sig .tc := ⟨.hbm, 52, rfl⟩
abbrev main_call1_v3 : Ref sig .tc := ⟨.hbm, 53, rfl⟩
abbrev main_call1_v4 : Ref sig .tc := ⟨.hbm, 54, rfl⟩
abbrev main_call1_v5 : Ref sig .tc := ⟨.hbm, 55, rfl⟩
abbrev main_call1_v6 : Ref sig .tc := ⟨.hbm, 56, rfl⟩
abbrev main_call1_v7 : Ref sig .tc := ⟨.hbm, 57, rfl⟩
abbrev main_call1_cst_0 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_v12 : Ref sig .tc := ⟨.hbm, 63, rfl⟩
abbrev main_call1_v13 : Ref sig .tc := ⟨.hbm, 64, rfl⟩
abbrev main_call1_v14 : Ref sig .tc := ⟨.hbm, 65, rfl⟩
abbrev main_call1_v15 : Ref sig .tc := ⟨.hbm, 66, rfl⟩
abbrev main_call1_v16 : Ref sig .tc := ⟨.hbm, 67, rfl⟩
abbrev main_call1_v17 : Ref sig .tc := ⟨.hbm, 68, rfl⟩
abbrev main_call1_cst_1 : Ref sig .tc := ⟨.hbm, 69, rfl⟩
abbrev main_call1_v18 : Ref sig .tc := ⟨.hbm, 70, rfl⟩
abbrev main_call1_v19 : Ref sig .tc := ⟨.hbm, 71, rfl⟩
abbrev main_call1_v20 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_cst_2 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_cst_3 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_cst_4 : Ref sig .tc := ⟨.hbm, 91, rfl⟩
abbrev main_call3_v0 : Ref sig .tc := ⟨.hbm, 92, rfl⟩
abbrev main_call3_v1 : Ref sig .tc := ⟨.hbm, 93, rfl⟩
abbrev main_call3_v2 : Ref sig .tc := ⟨.hbm, 94, rfl⟩
abbrev main_v33 : Ref sig .tc := ⟨.hbm, 95, rfl⟩
abbrev main_v34 : Ref sig .tc := ⟨.hbm, 96, rfl⟩
abbrev main_cst_5 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev main_v41 : Ref sig .tc := ⟨.hbm, 104, rfl⟩
abbrev main_v42 : Ref sig .tc := ⟨.hbm, 105, rfl⟩
abbrev main_cst_6 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_v48 : Ref sig .tc := ⟨.hbm, 112, rfl⟩
abbrev main_v49 : Ref sig .tc := ⟨.hbm, 113, rfl⟩
abbrev main_cst_7 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_v53 : Ref sig .tc := ⟨.hbm, 118, rfl⟩
abbrev main_v54 : Ref sig .tc := ⟨.hbm, 119, rfl⟩
abbrev main_v55 : Ref sig .tc := ⟨.hbm, 120, rfl⟩
abbrev main_v56 : Ref sig .tc := ⟨.hbm, 121, rfl⟩
abbrev main_v57 : Ref sig .tc := ⟨.hbm, 122, rfl⟩
abbrev main_v58 : Ref sig .tc := ⟨.hbm, 123, rfl⟩
abbrev main_v59 : Ref sig .tc := ⟨.hbm, 124, rfl⟩
abbrev main_v60 : Ref sig .tc := ⟨.hbm, 125, rfl⟩
abbrev main_v61_0 : Ref sig .tc := ⟨.hbm, 126, rfl⟩
abbrev main_v61_1 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c4_i32 : BitVec 32 := 4#32
  let v2 : BitVec 32 := Scalar.addi c4_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c8_i32 : BitVec 32 := 8#32
  let v2 : BitVec 32 := Scalar.addi c8_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c32_i32 : BitVec 32 := 32#32
  let v2 : BitVec 32 := Scalar.addi c32_i32 arg1
  let c0_i32 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c36_i32 : BitVec 32 := 36#32
  let v2 : BitVec 32 := Scalar.addi c36_i32 arg1
  let c0_i32 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c20_i32 : BitVec 32 := 20#32
  let v2 : BitVec 32 := Scalar.addi c20_i32 arg1
  let c0_i32 : BitVec 32 := 0#32
  ![v1.toNat, v2.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c24_i32 : BitVec 32 := 24#32
  let v2 : BitVec 32 := Scalar.addi c24_i32 arg1
  let c0_i32 : BitVec 32 := 0#32
  ![v1.toNat, v2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S4096x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4096x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4096x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]

abbrev stage0_9 : Fin 2 → Memref sig .tc .vmem S1x256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, false]

abbrev stage0_10 : Fin 2 → Memref sig .tc .vmem S1x256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, false]

abbrev stage0_11 : Fin 2 → Memref sig .tc .vmem S1x256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S4096x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, true]

abbrev stage0_16 : Fin 2 → Memref sig .tc .vmem S4096x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, true]
-- ==== ReferenceIdeal.lean ====
abbrev S32768x7168 : Shape := ⟨2, ![32768, 7168]⟩
abbrev S32768x512 : Shape := ⟨2, ![32768, 512]⟩
abbrev S1024 : Shape := ⟨1, ![1024]⟩
abbrev S4x8192x7168 : Shape := ⟨3, ![4, 8192, 7168]⟩
abbrev S4x8192x1024 : Shape := ⟨3, ![4, 8192, 1024]⟩
abbrev S4x8192x4x256 : Shape := ⟨4, ![4, 8192, 4, 256]⟩
abbrev S4 : Shape := ⟨1, ![4]⟩
abbrev S_ : Shape := ⟨0, ![]⟩
abbrev S64 : Shape := ⟨1, ![64]⟩
abbrev S4x1x1 : Shape := ⟨3, ![4, 1, 1]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S4x64x64 : Shape := ⟨3, ![4, 64, 64]⟩
abbrev S4x128x64x4x256 : Shape := ⟨5, ![4, 128, 64, 4, 256]⟩
abbrev S4x4x128x64x256 : Shape := ⟨5, ![4, 4, 128, 64, 256]⟩
abbrev S4x4x128x64x64 : Shape := ⟨5, ![4, 4, 128, 64, 64]⟩
abbrev S1x4x1x64x64 : Shape := ⟨5, ![1, 4, 1, 64, 64]⟩
abbrev S4x1 : Shape := ⟨2, ![4, 1]⟩
abbrev S4x64 : Shape := ⟨2, ![4, 64]⟩
abbrev S1x4x1x64x1 : Shape := ⟨5, ![1, 4, 1, 64, 1]⟩
abbrev S1x4x1x1 : Shape := ⟨4, ![1, 4, 1, 1]⟩
abbrev S4x4x128x256 : Shape := ⟨4, ![4, 4, 128, 256]⟩
abbrev S4x8192x512 : Shape := ⟨3, ![4, 8192, 512]⟩
abbrev S4x8192x4x128 : Shape := ⟨4, ![4, 8192, 4, 128]⟩
abbrev S4x128x64x4x128 : Shape := ⟨5, ![4, 128, 64, 4, 128]⟩
abbrev S4x4x128x64x128 : Shape := ⟨5, ![4, 4, 128, 64, 128]⟩
abbrev S4x4x128x1x128 : Shape := ⟨5, ![4, 4, 128, 1, 128]⟩
abbrev S4x4x128x128 : Shape := ⟨4, ![4, 4, 128, 128]⟩
abbrev S128x4x4x64x256 : Shape := ⟨5, ![128, 4, 4, 64, 256]⟩
abbrev S128x4x4x256 : Shape := ⟨4, ![128, 4, 4, 256]⟩
abbrev S128x4x4x64x128 : Shape := ⟨5, ![128, 4, 4, 64, 128]⟩
abbrev S128x4x4x128 : Shape := ⟨4, ![128, 4, 4, 128]⟩
abbrev S4x4x256x256 : Shape := ⟨4, ![4, 4, 256, 256]⟩
abbrev S1x4x4x64x256 : Shape := ⟨5, ![1, 4, 4, 64, 256]⟩
abbrev S4x4x64x256 : Shape := ⟨4, ![4, 4, 64, 256]⟩
abbrev S1x4x4x256 : Shape := ⟨4, ![1, 4, 4, 256]⟩
abbrev S4x4x256 : Shape := ⟨3, ![4, 4, 256]⟩
abbrev S1x4x4x64x128 : Shape := ⟨5, ![1, 4, 4, 64, 128]⟩
abbrev S4x4x64x128 : Shape := ⟨4, ![4, 4, 64, 128]⟩
abbrev S1x4x4x128 : Shape := ⟨4, ![1, 4, 4, 128]⟩
abbrev S4x4x128 : Shape := ⟨3, ![4, 4, 128]⟩
abbrev S4x4x256x1 : Shape := ⟨4, ![4, 4, 256, 1]⟩
abbrev S4x4x128x1 : Shape := ⟨4, ![4, 4, 128, 1]⟩
abbrev S32768x1024 : Shape := ⟨2, ![32768, 1024]⟩
abbrev S4x8192x4 : Shape := ⟨3, ![4, 8192, 4]⟩
abbrev S4x8192x4x1 : Shape := ⟨4, ![4, 8192, 4, 1]⟩
abbrev S1x1x1024 : Shape := ⟨3, ![1, 1, 1024]⟩

abbrev nBuf : Space → Nat
  | .hbm => 321
  | .vmem => 0
  | .smem => 0
  | _ => 0

abbrev hbmTy0_0 (i : Nat) : BufTy := match i % 128 with
  | 0 => ⟨S32768x7168, .bf16⟩
  | 1 => ⟨S32768x512, .f32⟩
  | 2 => ⟨S1024, .f32⟩
  | 3 => ⟨S1024, .f32⟩
  | 4 => ⟨S32768x7168, .f32⟩
  | 5 => ⟨S4x8192x7168, .f32⟩
  | 6 => ⟨S4x8192x1024, .f32⟩
  | 7 => ⟨S4x8192x4x256, .f32⟩
  | 8 => ⟨S4x8192x1024, .f32⟩
  | 9 => ⟨S4x8192x4x256, .f32⟩
  | 10 => ⟨S4x8192x1024, .f32⟩
  | 11 => ⟨S4x8192x4x256, .f32⟩
  | 12 => ⟨S4, .f32⟩
  | 13 => ⟨S_, .f32⟩
  | 14 => ⟨S4, .f32⟩
  | 15 => ⟨S4, .f32⟩
  | 16 => ⟨S_, .f32⟩
  | 17 => ⟨S4, .f32⟩
  | 18 => ⟨S4, .f32⟩
  | 19 => ⟨S4, .f32⟩
  | 20 => ⟨S4, .f32⟩
  | 21 => ⟨S4, .f32⟩
  | 22 => ⟨S64, .f32⟩
  | 23 => ⟨S4x1x1, .f32⟩
  | 24 => ⟨S64x1, .f32⟩
  | 25 => ⟨S1x64, .f32⟩
  | 26 => ⟨S64x64, .f32⟩
  | 27 => ⟨S64x64, .f32⟩
  | 28 => ⟨S64x64, .f32⟩
  | 29 => ⟨S64x64, .f32⟩
  | 30 => ⟨S1x64x64, .f32⟩
  | 31 => ⟨S4x64x64, .f32⟩
  | 32 => ⟨S4x64x64, .f32⟩
  | 33 => ⟨S4x64x64, .f32⟩
  | 34 => ⟨S4x64x64, .f32⟩
  | 35 => ⟨S4x128x64x4x256, .f32⟩
  | 36 => ⟨S4x4x128x64x256, .f32⟩
  | 37 => ⟨S4x128x64x4x256, .f32⟩
  | 38 => ⟨S4x4x128x64x256, .f32⟩
  | 39 => ⟨S4x128x64x4x256, .f32⟩
  | 40 => ⟨S4x4x128x64x256, .f32⟩
  | 41 => ⟨S4x4x128x64x64, .f32⟩
  | 42 => ⟨S1x4x1x64x64, .f32⟩
  | 43 => ⟨S4x4x128x64x64, .f32⟩
  | 44 => ⟨S4x4x128x64x64, .f32⟩
  | 45 => ⟨S4x4x128x64x256, .f32⟩
  | 46 => ⟨S4x1, .f32⟩
  | 47 => ⟨S_, .f32⟩
  | 48 => ⟨S64, .f32⟩
  | 49 => ⟨S64, .f32⟩
  | 50 => ⟨S1x64, .f32⟩
  | 51 => ⟨S4x64, .f32⟩
  | 52 => ⟨S4x64, .f32⟩
  | 53 => ⟨S4x64, .f32⟩
  | 54 => ⟨S4x64, .f32⟩
  | 55 => ⟨S1x4x1x64x1, .f32⟩
  | 56 => ⟨S4x1, .f32⟩
  | 57 => ⟨S_, .f32⟩
  | 58 => ⟨S64, .f32⟩
  | 59 => ⟨S64, .f32⟩
  | 60 => ⟨S1x64, .f32⟩
  | 61 => ⟨S4x64, .f32⟩
  | 62 => ⟨S4x64, .f32⟩
  | 63 => ⟨S4x64, .f32⟩
  | 64 => ⟨S4x64, .f32⟩
  | 65 => ⟨S1x4x1x64x1, .f32⟩
  | 66 => ⟨S_, .f32⟩
  | 67 => ⟨S4, .f32⟩
  | 68 => ⟨S4, .f32⟩
  | 69 => ⟨S4, .f32⟩
  | 70 => ⟨S1x4x1x1, .f32⟩
  | 71 => ⟨S4x4x128x256, .f32⟩
  | 72 => ⟨S4x4x128x64x256, .f32⟩
  | 73 => ⟨S4x4x128x64x256, .f32⟩
  | 74 => ⟨S4x4x128x64x256, .f32⟩
  | 75 => ⟨S4x4x128x64x256, .f32⟩
  | 76 => ⟨S4x8192x512, .f32⟩
  | 77 => ⟨S4x8192x4x128, .f32⟩
  | 78 => ⟨S4x8192x512, .f32⟩
  | 79 => ⟨S4x8192x4x128, .f32⟩
  | 80 => ⟨S4x8192x1024, .f32⟩
  | 81 => ⟨S4x8192x4x256, .f32⟩
  | 82 => ⟨S4x8192x4x128, .f32⟩
  | 83 => ⟨S4x128x64x4x128, .f32⟩
  | 84 => ⟨S4x4x128x64x128, .f32⟩
  | 85 => ⟨S4x128x64x4x128, .f32⟩
  | 86 => ⟨S4x4x128x64x128, .f32⟩
  | 87 => ⟨S4x128x64x4x256, .f32⟩
  | 88 => ⟨S4x4x128x64x256, .f32⟩
  | 89 => ⟨S4x128x64x4x128, .f32⟩
  | 90 => ⟨S4x4x128x64x128, .f32⟩
  | 91 => ⟨S4x4x128x1x128, .f32⟩
  | 92 => ⟨S4x4x128x64x128, .f32⟩
  | 93 => ⟨S4x4x128x64x128, .f32⟩
  | 94 => ⟨S4x4x128x64x128, .f32⟩
  | 95 => ⟨S4x4x128x64x128, .f32⟩
  | 96 => ⟨S4x4x128x64x128, .f32⟩
  | 97 => ⟨S4x4x128x64x128, .f32⟩
  | 98 => ⟨S4x4x128x64x128, .f32⟩
  | 99 => ⟨S4x4x128x64x64, .f32⟩
  | 100 => ⟨S4x4x128x64x128, .f32⟩
  | 101 => ⟨S4x4x128x64x128, .f32⟩
  | 102 => ⟨S4x4x128x64x64, .f32⟩
  | 103 => ⟨S64, .i32⟩
  | 104 => ⟨S64x1, .i32⟩
  | 105 => ⟨S1x64, .i32⟩
  | 106 => ⟨S64x64, .i32⟩
  | 107 => ⟨S64x64, .i32⟩
  | 108 => ⟨S64x64, .i1⟩
  | 109 => ⟨S4x4x128x64x64, .i1⟩
  | 110 => ⟨S4x4x128x64x64, .f32⟩
  | 111 => ⟨S4x4x128x64x256, .f32⟩
  | 112 => ⟨S4x4x128x1x128, .f32⟩
  | 113 => ⟨S4x4x128x64x128, .f32⟩
  | 114 => ⟨S4x4x128x64x128, .f32⟩
  | 115 => ⟨S4x4x128x64x128, .f32⟩
  | 116 => ⟨S4x4x128x64x128, .f32⟩
  | 117 => ⟨S4x4x128x64x128, .f32⟩
  | 118 => ⟨S4x4x128x64x128, .f32⟩
  | 119 => ⟨S4x4x128x128, .f32⟩
  | 120 => ⟨S4x4x128x128, .f32⟩
  | 121 => ⟨S128x4x4x64x256, .f32⟩
  | 122 => ⟨S128x4x4x64x256, .f32⟩
  | 123 => ⟨S128x4x4x64x256, .f32⟩
  | 124 => ⟨S128x4x4x64x256, .f32⟩
  | 125 => ⟨S128x4x4x256, .f32⟩
  | 126 => ⟨S128x4x4x64x256, .f32⟩
  | 127 => ⟨S128x4x4x64x128, .f32⟩
  | _ => ⟨S32768x7168, .bf16⟩

abbrev hbmTy0_1 (i : Nat) : BufTy := match i % 128 with
  | 0 => ⟨S128x4x4x64x128, .f32⟩
  | 1 => ⟨S128x4x4x64x256, .f32⟩
  | 2 => ⟨S128x4x4x128, .f32⟩
  | 3 => ⟨S_, .f32⟩
  | 4 => ⟨S4x4x256x256, .f32⟩
  | 5 => ⟨S_, .f32⟩
  | 6 => ⟨S4x4x128x256, .f32⟩
  | 7 => ⟨S_, .f32⟩
  | 8 => ⟨S128x4x4x64x256, .f32⟩
  | 9 => ⟨S_, .f32⟩
  | 10 => ⟨S128x4x4x64x256, .f32⟩
  | 11 => ⟨S_, .i32⟩
  | 12 => ⟨S128x4x4x64x256, .f32⟩
  | 13 => ⟨S128x4x4x64x256, .f32⟩
  | 14 => ⟨S128x4x4x64x256, .f32⟩
  | 15 => ⟨S128x4x4x64x256, .f32⟩
  | 16 => ⟨S128x4x4x256, .f32⟩
  | 17 => ⟨S128x4x4x64x256, .f32⟩
  | 18 => ⟨S128x4x4x64x128, .f32⟩
  | 19 => ⟨S128x4x4x64x128, .f32⟩
  | 20 => ⟨S128x4x4x64x256, .f32⟩
  | 21 => ⟨S128x4x4x128, .f32⟩
  | 22 => ⟨S_, .i32⟩
  | 23 => ⟨S4x4x256x256, .f32⟩
  | 24 => ⟨S4x4x128x256, .f32⟩
  | 25 => ⟨S128x4x4x64x256, .f32⟩
  | 26 => ⟨S128x4x4x64x256, .f32⟩
  | 27 => ⟨S_, .i32⟩
  | 28 => ⟨S_, .i1⟩
  | 29 => ⟨S_, .i32⟩
  | 30 => ⟨S_, .i32⟩
  | 31 => ⟨S_, .i32⟩
  | 32 => ⟨S_, .i32⟩
  | 33 => ⟨S1x4x4x64x256, .f32⟩
  | 34 => ⟨S4x4x64x256, .f32⟩
  | 35 => ⟨S_, .i32⟩
  | 36 => ⟨S_, .i32⟩
  | 37 => ⟨S_, .i32⟩
  | 38 => ⟨S_, .i32⟩
  | 39 => ⟨S1x4x4x64x256, .f32⟩
  | 40 => ⟨S4x4x64x256, .f32⟩
  | 41 => ⟨S_, .i32⟩
  | 42 => ⟨S_, .i32⟩
  | 43 => ⟨S_, .i32⟩
  | 44 => ⟨S_, .i32⟩
  | 45 => ⟨S1x4x4x64x256, .f32⟩
  | 46 => ⟨S4x4x64x256, .f32⟩
  | 47 => ⟨S_, .i32⟩
  | 48 => ⟨S_, .i32⟩
  | 49 => ⟨S_, .i32⟩
  | 50 => ⟨S_, .i32⟩
  | 51 => ⟨S1x4x4x64x256, .f32⟩
  | 52 => ⟨S4x4x64x256, .f32⟩
  | 53 => ⟨S_, .i32⟩
  | 54 => ⟨S_, .i32⟩
  | 55 => ⟨S_, .i32⟩
  | 56 => ⟨S1x4x4x256, .f32⟩
  | 57 => ⟨S4x4x256, .f32⟩
  | 58 => ⟨S_, .i32⟩
  | 59 => ⟨S_, .i32⟩
  | 60 => ⟨S_, .i32⟩
  | 61 => ⟨S_, .i32⟩
  | 62 => ⟨S1x4x4x64x256, .f32⟩
  | 63 => ⟨S4x4x64x256, .f32⟩
  | 64 => ⟨S_, .i32⟩
  | 65 => ⟨S_, .i32⟩
  | 66 => ⟨S_, .i32⟩
  | 67 => ⟨S_, .i32⟩
  | 68 => ⟨S1x4x4x64x128, .f32⟩
  | 69 => ⟨S4x4x64x128, .f32⟩
  | 70 => ⟨S_, .i32⟩
  | 71 => ⟨S_, .i32⟩
  | 72 => ⟨S_, .i32⟩
  | 73 => ⟨S_, .i32⟩
  | 74 => ⟨S1x4x4x64x128, .f32⟩
  | 75 => ⟨S4x4x64x128, .f32⟩
  | 76 => ⟨S_, .i32⟩
  | 77 => ⟨S_, .i32⟩
  | 78 => ⟨S_, .i32⟩
  | 79 => ⟨S_, .i32⟩
  | 80 => ⟨S1x4x4x64x256, .f32⟩
  | 81 => ⟨S4x4x64x256, .f32⟩
  | 82 => ⟨S_, .i32⟩
  | 83 => ⟨S_, .i32⟩
  | 84 => ⟨S_, .i32⟩
  | 85 => ⟨S1x4x4x128, .f32⟩
  | 86 => ⟨S4x4x128, .f32⟩
  | 87 => ⟨S4x4x64x256, .f32⟩
  | 88 => ⟨S4x4x64x256, .f32⟩
  | 89 => ⟨S4x4x256x1, .f32⟩
  | 90 => ⟨S4x4x256x256, .f32⟩
  | 91 => ⟨S4x4x256x256, .f32⟩
  | 92 => ⟨S4x4x256x256, .f32⟩
  | 93 => ⟨S4x4x256x256, .f32⟩
  | 94 => ⟨S4x4x64x256, .f32⟩
  | 95 => ⟨S4x4x64x256, .f32⟩
  | 96 => ⟨S4x4x128x1, .f32⟩
  | 97 => ⟨S4x4x128x256, .f32⟩
  | 98 => ⟨S4x4x128x256, .f32⟩
  | 99 => ⟨S4x4x128x256, .f32⟩
  | 100 => ⟨S4x4x128x256, .f32⟩
  | 101 => ⟨S1x4x4x64x256, .f32⟩
  | 102 => ⟨S_, .i32⟩
  | 103 => ⟨S_, .i32⟩
  | 104 => ⟨S_, .i32⟩
  | 105 => ⟨S_, .i32⟩
  | 106 => ⟨S128x4x4x64x256, .f32⟩
  | 107 => ⟨S1x4x4x64x256, .f32⟩
  | 108 => ⟨S_, .i32⟩
  | 109 => ⟨S_, .i32⟩
  | 110 => ⟨S_, .i32⟩
  | 111 => ⟨S_, .i32⟩
  | 112 => ⟨S128x4x4x64x256, .f32⟩
  | 113 => ⟨S_, .i32⟩
  | 114 => ⟨S_, .i32⟩
  | 115 => ⟨S4x4x128x64x256, .f32⟩
  | 116 => ⟨S4x4x128x64x256, .f32⟩
  | 117 => ⟨S32768x1024, .bf16⟩
  | 118 => ⟨S32768x1024, .f32⟩
  | 119 => ⟨S4x8192x1024, .f32⟩
  | 120 => ⟨S32768x1024, .bf16⟩
  | 121 => ⟨S32768x1024, .f32⟩
  | 122 => ⟨S4x8192x1024, .f32⟩
  | 123 => ⟨S4x128x64x4x256, .f32⟩
  | 124 => ⟨S4x8192x4x256, .f32⟩
  | 125 => ⟨S_, .f32⟩
  | 126 => ⟨S4x8192x4, .f32⟩
  | 127 => ⟨S4x8192x4x1, .f32⟩
  | _ => ⟨S32768x7168, .bf16⟩

abbrev hbmTy0_2 (i : Nat) : BufTy := match i % 128 with
  | 0 => ⟨S_, .f32⟩
  | 1 => ⟨S4x8192x4x1, .f32⟩
  | 2 => ⟨S4x8192x4x1, .f32⟩
  | 3 => ⟨S4x8192x4x256, .f32⟩
  | 4 => ⟨S4x8192x4x256, .f32⟩
  | 5 => ⟨S4x8192x4x256, .f32⟩
  | 6 => ⟨S_, .f32⟩
  | 7 => ⟨S4x8192x4, .f32⟩
  | 8 => ⟨S4x8192x4x1, .f32⟩
  | 9 => ⟨S_, .f32⟩
  | 10 => ⟨S4x8192x4x1, .f32⟩
  | 11 => ⟨S4x8192x4x1, .f32⟩
  | 12 => ⟨S_, .f32⟩
  | 13 => ⟨S4x8192x4x1, .f32⟩
  | 14 => ⟨S4x8192x4x1, .f32⟩
  | 15 => ⟨S4x8192x4x1, .f32⟩
  | 16 => ⟨S4x8192x4x256, .f32⟩
  | 17 => ⟨S4x8192x4x256, .f32⟩
  | 18 => ⟨S4x8192x1024, .f32⟩
  | 19 => ⟨S1x1x1024, .f32⟩
  | 20 => ⟨S4x8192x1024, .f32⟩
  | 21 => ⟨S4x8192x1024, .f32⟩
  | 22 => ⟨S4x8192x1024, .f32⟩
  | 23 => ⟨S4x8192x1024, .f32⟩
  | 24 => ⟨S_, .f32⟩
  | 25 => ⟨S4x8192x1024, .f32⟩
  | 26 => ⟨S4x8192x1024, .f32⟩
  | 27 => ⟨S_, .f32⟩
  | 28 => ⟨S4x8192x1024, .f32⟩
  | 29 => ⟨S4x8192x1024, .f32⟩
  | 30 => ⟨S4x8192x1024, .f32⟩
  | 31 => ⟨S4x8192x1024, .f32⟩
  | 32 => ⟨S4x128x64x4x256, .f32⟩
  | 33 => ⟨S4x8192x4x256, .f32⟩
  | 34 => ⟨S4x8192x4x256, .f32⟩
  | 35 => ⟨S_, .f32⟩
  | 36 => ⟨S4x8192x4, .f32⟩
  | 37 => ⟨S4x8192x4x1, .f32⟩
  | 38 => ⟨S_, .f32⟩
  | 39 => ⟨S4x8192x4x1, .f32⟩
  | 40 => ⟨S4x8192x4x1, .f32⟩
  | 41 => ⟨S_, .f32⟩
  | 42 => ⟨S4x8192x4x1, .f32⟩
  | 43 => ⟨S4x8192x4x1, .f32⟩
  | 44 => ⟨S4x8192x4x1, .f32⟩
  | 45 => ⟨S4x8192x4x256, .f32⟩
  | 46 => ⟨S4x8192x4x256, .f32⟩
  | 47 => ⟨S4x8192x1024, .f32⟩
  | 48 => ⟨S1x1x1024, .f32⟩
  | 49 => ⟨S4x8192x1024, .f32⟩
  | 50 => ⟨S4x8192x1024, .f32⟩
  | 51 => ⟨S4x8192x1024, .f32⟩
  | 52 => ⟨S4x8192x1024, .f32⟩
  | 53 => ⟨S_, .f32⟩
  | 54 => ⟨S4x8192x1024, .f32⟩
  | 55 => ⟨S4x8192x1024, .f32⟩
  | 56 => ⟨S_, .f32⟩
  | 57 => ⟨S4x8192x1024, .f32⟩
  | 58 => ⟨S4x8192x1024, .f32⟩
  | 59 => ⟨S4x8192x1024, .f32⟩
  | 60 => ⟨S4x8192x1024, .f32⟩
  | 61 => ⟨S32768x1024, .f32⟩
  | 62 => ⟨S32768x1024, .bf16⟩
  | 63 => ⟨S32768x1024, .f32⟩
  | 64 => ⟨S32768x1024, .bf16⟩
  | _ => ⟨S32768x7168, .bf16⟩

abbrev hbmTy (i : Nat) : BufTy := match i / 128 with
  | 0 => hbmTy0_0 i
  | 1 => hbmTy0_1 i
  | 2 => hbmTy0_2 i
  | _ => ⟨S32768x7168, .bf16⟩

abbrev bufTy : (tb : Table) → Fin (tcTables nBuf tb) → BufTy
  | .hbm, ⟨i, _⟩ => hbmTy i
  | _, _ => ⟨S32768x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_cst_1 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_cst_2 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55 : Ref sig .tc := ⟨.hbm, 63, rfl⟩
abbrev main_v56 : Ref sig .tc := ⟨.hbm, 64, rfl⟩
abbrev main_v57 : Ref sig .tc := ⟨.hbm, 65, rfl⟩
abbrev main_cst_3 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_call0_v0 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_v112 : Ref sig .tc := ⟨.hbm, 122, rfl⟩
abbrev main_v113 : Ref sig .tc := ⟨.hbm, 123, rfl⟩
abbrev main_v114 : Ref sig .tc := ⟨.hbm, 124, rfl⟩
abbrev main_v115 : Ref sig .tc := ⟨.hbm, 125, rfl⟩
abbrev main_v116 : Ref sig .tc := ⟨.hbm, 126, rfl⟩
abbrev main_v117 : Ref sig .tc := ⟨.hbm, 127, rfl⟩
abbrev main_v118 : Ref sig .tc := ⟨.hbm, 128, rfl⟩
abbrev main_v119 : Ref sig .tc := ⟨.hbm, 129, rfl⟩
abbrev main_v120 : Ref sig .tc := ⟨.hbm, 130, rfl⟩
abbrev main_cst_4 : Ref sig .tc := ⟨.hbm, 131, rfl⟩
abbrev main_v121 : Ref sig .tc := ⟨.hbm, 132, rfl⟩
abbrev main_cst_5 : Ref sig .tc := ⟨.hbm, 133, rfl⟩
abbrev main_v122 : Ref sig .tc := ⟨.hbm, 134, rfl⟩
abbrev main_cst_6 : Ref sig .tc := ⟨.hbm, 135, rfl⟩
abbrev main_v123 : Ref sig .tc := ⟨.hbm, 136, rfl⟩
abbrev main_cst_7 : Ref sig .tc := ⟨.hbm, 137, rfl⟩
abbrev main_v124 : Ref sig .tc := ⟨.hbm, 138, rfl⟩
abbrev main_c : Ref sig .tc := ⟨.hbm, 139, rfl⟩
abbrev main_v125_0 : Ref sig .tc := ⟨.hbm, 140, rfl⟩
abbrev main_v125_1 : Ref sig .tc := ⟨.hbm, 141, rfl⟩
abbrev main_v125_2 : Ref sig .tc := ⟨.hbm, 142, rfl⟩
abbrev main_v125_3 : Ref sig .tc := ⟨.hbm, 143, rfl⟩
abbrev main_v125_4 : Ref sig .tc := ⟨.hbm, 144, rfl⟩
abbrev main_v125_5 : Ref sig .tc := ⟨.hbm, 145, rfl⟩
abbrev main_v125_6 : Ref sig .tc := ⟨.hbm, 146, rfl⟩
abbrev main_v125_7 : Ref sig .tc := ⟨.hbm, 147, rfl⟩
abbrev main_v125_8 : Ref sig .tc := ⟨.hbm, 148, rfl⟩
abbrev main_v125_9 : Ref sig .tc := ⟨.hbm, 149, rfl⟩
abbrev main_v125_10 : Ref sig .tc := ⟨.hbm, 150, rfl⟩
abbrev main_v125_11 : Ref sig .tc := ⟨.hbm, 151, rfl⟩
abbrev main_v125_12 : Ref sig .tc := ⟨.hbm, 152, rfl⟩
abbrev main_v125_13 : Ref sig .tc := ⟨.hbm, 153, rfl⟩
abbrev main_v125_14 : Ref sig .tc := ⟨.hbm, 154, rfl⟩
abbrev main_while0c_c_30 : Ref sig .tc := ⟨.hbm, 155, rfl⟩
abbrev main_while0c_v180 : Ref sig .tc := ⟨.hbm, 156, rfl⟩
abbrev main_while0b_call1_c : Ref sig .tc := ⟨.hbm, 157, rfl⟩
abbrev main_while0b_call1_c_0 : Ref sig .tc := ⟨.hbm, 158, rfl⟩
abbrev main_while0b_call1_c_1 : Ref sig .tc := ⟨.hbm, 159, rfl⟩
abbrev main_while0b_call1_c_2 : Ref sig .tc := ⟨.hbm, 160, rfl⟩
abbrev main_while0b_call1_v0 : Ref sig .tc := ⟨.hbm, 161, rfl⟩
abbrev main_while0b_v180 : Ref sig .tc := ⟨.hbm, 162, rfl⟩
abbrev main_while0b_call2_c : Ref sig .tc := ⟨.hbm, 163, rfl⟩
abbrev main_while0b_call2_c_0 : Ref sig .tc := ⟨.hbm, 164, rfl⟩
abbrev main_while0b_call2_c_1 : Ref sig .tc := ⟨.hbm, 165, rfl⟩
abbrev main_while0b_call2_c_2 : Ref sig .tc := ⟨.hbm, 166, rfl⟩
abbrev main_while0b_call2_v0 : Ref sig .tc := ⟨.hbm, 167, rfl⟩
abbrev main_while0b_v181 : Ref sig .tc := ⟨.hbm, 168, rfl⟩
abbrev main_while0b_call3_c : Ref sig .tc := ⟨.hbm, 169, rfl⟩
abbrev main_while0b_call3_c_0 : Ref sig .tc := ⟨.hbm, 170, rfl⟩
abbrev main_while0b_call3_c_1 : Ref sig .tc := ⟨.hbm, 171, rfl⟩
abbrev main_while0b_call3_c_2 : Ref sig .tc := ⟨.hbm, 172, rfl⟩
abbrev main_while0b_call3_v0 : Ref sig .tc := ⟨.hbm, 173, rfl⟩
abbrev main_while0b_v182 : Ref sig .tc := ⟨.hbm, 174, rfl⟩
abbrev main_while0b_call4_c : Ref sig .tc := ⟨.hbm, 175, rfl⟩
abbrev main_while0b_call4_c_0 : Ref sig .tc := ⟨.hbm, 176, rfl⟩
abbrev main_while0b_call4_c_1 : Ref sig .tc := ⟨.hbm, 177, rfl⟩
abbrev main_while0b_call4_c_2 : Ref sig .tc := ⟨.hbm, 178, rfl⟩
abbrev main_while0b_call4_v0 : Ref sig .tc := ⟨.hbm, 179, rfl⟩
abbrev main_while0b_v183 : Ref sig .tc := ⟨.hbm, 180, rfl⟩
abbrev main_while0b_call5_c : Ref sig .tc := ⟨.hbm, 181, rfl⟩
abbrev main_while0b_call5_c_0 : Ref sig .tc := ⟨.hbm, 182, rfl⟩
abbrev main_while0b_call5_c_1 : Ref sig .tc := ⟨.hbm, 183, rfl⟩
abbrev main_while0b_call5_v0 : Ref sig .tc := ⟨.hbm, 184, rfl⟩
abbrev main_while0b_v184 : Ref sig .tc := ⟨.hbm, 185, rfl⟩
abbrev main_while0b_call6_c : Ref sig .tc := ⟨.hbm, 186, rfl⟩
abbrev main_while0b_call6_c_0 : Ref sig .tc := ⟨.hbm, 187, rfl⟩
abbrev main_while0b_call6_c_1 : Ref sig .tc := ⟨.hbm, 188, rfl⟩
abbrev main_while0b_call6_c_2 : Ref sig .tc := ⟨.hbm, 189, rfl⟩
abbrev main_while0b_call6_v0 : Ref sig .tc := ⟨.hbm, 190, rfl⟩
abbrev main_while0b_v185 : Ref sig .tc := ⟨.hbm, 191, rfl⟩
abbrev main_while0b_call7_c : Ref sig .tc := ⟨.hbm, 192, rfl⟩
abbrev main_while0b_call7_c_0 : Ref sig .tc := ⟨.hbm, 193, rfl⟩
abbrev main_while0b_call7_c_1 : Ref sig .tc := ⟨.hbm, 194, rfl⟩
abbrev main_while0b_call7_c_2 : Ref sig .tc := ⟨.hbm, 195, rfl⟩
abbrev main_while0b_call7_v0 : Ref sig .tc := ⟨.hbm, 196, rfl⟩
abbrev main_while0b_v186 : Ref sig .tc := ⟨.hbm, 197, rfl⟩
abbrev main_while0b_call8_c : Ref sig .tc := ⟨.hbm, 198, rfl⟩
abbrev main_while0b_call8_c_0 : Ref sig .tc := ⟨.hbm, 199, rfl⟩
abbrev main_while0b_call8_c_1 : Ref sig .tc := ⟨.hbm, 200, rfl⟩
abbrev main_while0b_call8_c_2 : Ref sig .tc := ⟨.hbm, 201, rfl⟩
abbrev main_while0b_call8_v0 : Ref sig .tc := ⟨.hbm, 202, rfl⟩
abbrev main_while0b_v187 : Ref sig .tc := ⟨.hbm, 203, rfl⟩
abbrev main_while0b_call9_c : Ref sig .tc := ⟨.hbm, 204, rfl⟩
abbrev main_while0b_call9_c_0 : Ref sig .tc := ⟨.hbm, 205, rfl⟩
abbrev main_while0b_call9_c_1 : Ref sig .tc := ⟨.hbm, 206, rfl⟩
abbrev main_while0b_call9_c_2 : Ref sig .tc := ⟨.hbm, 207, rfl⟩
abbrev main_while0b_call9_v0 : Ref sig .tc := ⟨.hbm, 208, rfl⟩
abbrev main_while0b_v188 : Ref sig .tc := ⟨.hbm, 209, rfl⟩
abbrev main_while0b_call10_c : Ref sig .tc := ⟨.hbm, 210, rfl⟩
abbrev main_while0b_call10_c_0 : Ref sig .tc := ⟨.hbm, 211, rfl⟩
abbrev main_while0b_call10_c_1 : Ref sig .tc := ⟨.hbm, 212, rfl⟩
abbrev main_while0b_call10_v0 : Ref sig .tc := ⟨.hbm, 213, rfl⟩
abbrev main_while0b_v189 : Ref sig .tc := ⟨.hbm, 214, rfl⟩
abbrev main_while0b_v190 : Ref sig .tc := ⟨.hbm, 215, rfl⟩
abbrev main_while0b_v191 : Ref sig .tc := ⟨.hbm, 216, rfl⟩
abbrev main_while0b_v192 : Ref sig .tc := ⟨.hbm, 217, rfl⟩
abbrev main_while0b_v193 : Ref sig .tc := ⟨.hbm, 218, rfl⟩
abbrev main_while0b_v194 : Ref sig .tc := ⟨.hbm, 219, rfl⟩
abbrev main_while0b_v195 : Ref sig .tc := ⟨.hbm, 220, rfl⟩
abbrev main_while0b_v196 : Ref sig .tc := ⟨.hbm, 221, rfl⟩
abbrev main_while0b_v197 : Ref sig .tc := ⟨.hbm, 222, rfl⟩
abbrev main_while0b_v198 : Ref sig .tc := ⟨.hbm, 223, rfl⟩
abbrev main_while0b_v199 : Ref sig .tc := ⟨.hbm, 224, rfl⟩
abbrev main_while0b_v200 : Ref sig .tc := ⟨.hbm, 225, rfl⟩
abbrev main_while0b_v201 : Ref sig .tc := ⟨.hbm, 226, rfl⟩
abbrev main_while0b_v202 : Ref sig .tc := ⟨.hbm, 227, rfl⟩
abbrev main_while0b_v203 : Ref sig .tc := ⟨.hbm, 228, rfl⟩
abbrev main_while0b_call11_v0 : Ref sig .tc := ⟨.hbm, 229, rfl⟩
abbrev main_while0b_call11_c : Ref sig .tc := ⟨.hbm, 230, rfl⟩
abbrev main_while0b_call11_c_0 : Ref sig .tc := ⟨.hbm, 231, rfl⟩
abbrev main_while0b_call11_c_1 : Ref sig .tc := ⟨.hbm, 232, rfl⟩
abbrev main_while0b_call11_c_2 : Ref sig .tc := ⟨.hbm, 233, rfl⟩
abbrev main_while0b_v204 : Ref sig .tc := ⟨.hbm, 234, rfl⟩
abbrev main_while0b_call12_v0 : Ref sig .tc := ⟨.hbm, 235, rfl⟩
abbrev main_while0b_call12_c : Ref sig .tc := ⟨.hbm, 236, rfl⟩
abbrev main_while0b_call12_c_0 : Ref sig .tc := ⟨.hbm, 237, rfl⟩
abbrev main_while0b_call12_c_1 : Ref sig .tc := ⟨.hbm, 238, rfl⟩
abbrev main_while0b_call12_c_2 : Ref sig .tc := ⟨.hbm, 239, rfl⟩
abbrev main_while0b_v205 : Ref sig .tc := ⟨.hbm, 240, rfl⟩
abbrev main_while0b_c_30 : Ref sig .tc := ⟨.hbm, 241, rfl⟩
abbrev main_while0b_v206 : Ref sig .tc := ⟨.hbm, 242, rfl⟩
abbrev main_v126 : Ref sig .tc := ⟨.hbm, 243, rfl⟩
abbrev main_v127 : Ref sig .tc := ⟨.hbm, 244, rfl⟩
abbrev main_v128 : Ref sig .tc := ⟨.hbm, 245, rfl⟩
abbrev main_v129 : Ref sig .tc := ⟨.hbm, 246, rfl⟩
abbrev main_v130 : Ref sig .tc := ⟨.hbm, 247, rfl⟩
abbrev main_v131 : Ref sig .tc := ⟨.hbm, 248, rfl⟩
abbrev main_v132 : Ref sig .tc := ⟨.hbm, 249, rfl⟩
abbrev main_v133 : Ref sig .tc := ⟨.hbm, 250, rfl⟩
abbrev main_v134 : Ref sig .tc := ⟨.hbm, 251, rfl⟩
abbrev main_v135 : Ref sig .tc := ⟨.hbm, 252, rfl⟩
abbrev main_cst_8 : Ref sig .tc := ⟨.hbm, 253, rfl⟩
abbrev main_v136 : Ref sig .tc := ⟨.hbm, 254, rfl⟩
abbrev main_v137 : Ref sig .tc := ⟨.hbm, 255, rfl⟩
abbrev main_cst_9 : Ref sig .tc := ⟨.hbm, 256, rfl⟩
abbrev main_v138 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_cst_10 : Ref sig .tc := ⟨.hbm, 262, rfl⟩
abbrev main_v143 : Ref sig .tc := ⟨.hbm, 263, rfl⟩
abbrev main_v144 : Ref sig .tc := ⟨.hbm, 264, rfl⟩
abbrev main_cst_11 : Ref sig .tc := ⟨.hbm, 265, rfl⟩
abbrev main_v145 : Ref sig .tc := ⟨.hbm, 266, rfl⟩
abbrev main_v146 : Ref sig .tc := ⟨.hbm, 267, rfl⟩
abbrev main_cst_12 : Ref sig .tc := ⟨.hbm, 268, rfl⟩
abbrev main_v147 : Ref sig .tc := ⟨.hbm, 269, rfl⟩
abbrev main_v148 : Ref sig .tc := ⟨.hbm, 270, rfl⟩
abbrev main_v149 : Ref sig .tc := ⟨.hbm, 271, rfl⟩
abbrev main_v150 : Ref sig .tc := ⟨.hbm, 272, rfl⟩
abbrev main_v151 : Ref sig .tc := ⟨.hbm, 273, rfl⟩
abbrev main_v152 : Ref sig .tc := ⟨.hbm, 274, rfl⟩
abbrev main_v153 : Ref sig .tc := ⟨.hbm, 275, rfl⟩
abbrev main_v154 : Ref sig .tc := ⟨.hbm, 276, rfl⟩
abbrev main_v155 : Ref sig .tc := ⟨.hbm, 277, rfl⟩
abbrev main_call13_v0 : Ref sig .tc := ⟨.hbm, 278, rfl⟩
abbrev main_call13_v1 : Ref sig .tc := ⟨.hbm, 279, rfl⟩
abbrev main_call13_cst : Ref sig .tc := ⟨.hbm, 280, rfl⟩
abbrev main_call13_v2 : Ref sig .tc := ⟨.hbm, 281, rfl⟩
abbrev main_call13_v3 : Ref sig .tc := ⟨.hbm, 282, rfl⟩
abbrev main_call13_cst_0 : Ref sig .tc := ⟨.hbm, 283, rfl⟩
abbrev main_call13_v4 : Ref sig .tc := ⟨.hbm, 284, rfl⟩
abbrev main_call13_v5 : Ref sig .tc := ⟨.hbm, 285, rfl⟩
abbrev main_v156 : Ref sig .tc := ⟨.hbm, 286, rfl⟩
abbrev main_v157 : Ref sig .tc := ⟨.hbm, 287, rfl⟩
abbrev main_v158 : Ref sig .tc := ⟨.hbm, 288, rfl⟩
abbrev main_v159 : Ref sig .tc := ⟨.hbm, 289, rfl⟩
abbrev main_v160 : Ref sig .tc := ⟨.hbm, 290, rfl⟩
abbrev main_cst_13 : Ref sig .tc := ⟨.hbm, 291, rfl⟩
abbrev main_v161 : Ref sig .tc := ⟨.hbm, 292, rfl⟩
abbrev main_v162 : Ref sig .tc := ⟨.hbm, 293, rfl⟩
abbrev main_cst_14 : Ref sig .tc := ⟨.hbm, 294, rfl⟩
abbrev main_v163 : Ref sig .tc := ⟨.hbm, 295, rfl⟩
abbrev main_v164 : Ref sig .tc := ⟨.hbm, 296, rfl⟩
abbrev main_cst_15 : Ref sig .tc := ⟨.hbm, 297, rfl⟩
abbrev main_v165 : Ref sig .tc := ⟨.hbm, 298, rfl⟩
abbrev main_v166 : Ref sig .tc := ⟨.hbm, 299, rfl⟩
abbrev main_v167 : Ref sig .tc := ⟨.hbm, 300, rfl⟩
abbrev main_v168 : Ref sig .tc := ⟨.hbm, 301, rfl⟩
abbrev main_v169 : Ref sig .tc := ⟨.hbm, 302, rfl⟩
abbrev main_v170 : Ref sig .tc := ⟨.hbm, 303, rfl⟩
abbrev main_v171 : Ref sig .tc := ⟨.hbm, 304, rfl⟩
abbrev main_v172 : Ref sig .tc := ⟨.hbm, 305, rfl⟩
abbrev main_v173 : Ref sig .tc := ⟨.hbm, 306, rfl⟩
abbrev main_call14_v0 : Ref sig .tc := ⟨.hbm, 307, rfl⟩
abbrev main_call14_v1 : Ref sig .tc := ⟨.hbm, 308, rfl⟩
abbrev main_call14_cst : Ref sig .tc := ⟨.hbm, 309, rfl⟩
abbrev main_call14_v2 : Ref sig .tc := ⟨.hbm, 310, rfl⟩
abbrev main_call14_v3 : Ref sig .tc := ⟨.hbm, 311, rfl⟩
abbrev main_call14_cst_0 : Ref sig .tc := ⟨.hbm, 312, rfl⟩
abbrev main_call14_v4 : Ref sig .tc := ⟨.hbm, 313, rfl⟩
abbrev main_call14_v5 : Ref sig .tc := ⟨.hbm, 314, rfl⟩
abbrev main_v174 : Ref sig .tc := ⟨.hbm, 315, rfl⟩
abbrev main_v175 : Ref sig .tc := ⟨.hbm, 316, rfl⟩
abbrev main_v176 : Ref sig .tc := ⟨.hbm, 317, rfl⟩
abbrev main_v177 : Ref sig .tc := ⟨.hbm, 318, rfl⟩
abbrev main_v178 : Ref sig .tc := ⟨.hbm, 319, rfl⟩
abbrev main_v179 : Ref sig .tc := ⟨.hbm, 320, rfl⟩

abbrev nD : Nat := 1
abbrev τ : Topo := Topo.v7x

variable {F : FTy → Type} [FloatOps F]

abbrev main_while0_count : Scf.Loop 32 := ⟨0#32, 128#32, 1#32⟩
-- ==== Kernel2.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S1x2048 : Shape := ⟨2, ![1, 2048]⟩
abbrev S512x5632 : Shape := ⟨2, ![512, 5632]⟩
abbrev S512x2048 : Shape := ⟨2, ![512, 2048]⟩
abbrev S128x5632 : Shape := ⟨2, ![128, 5632]⟩
abbrev S128x2048 : Shape := ⟨2, ![128, 2048]⟩
abbrev S128 : Shape := ⟨1, ![128]⟩
abbrev S128x1 : Shape := ⟨2, ![128, 1]⟩

abbrev nBuf : Space → Nat
  | .hbm => 9
  | .vmem => 9
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S5632x2048, .bf16⟩
  | .hbm, ⟨6, _⟩ => ⟨S1x2048, .f32⟩
  | .hbm, ⟨7, _⟩ => ⟨S1x2048, .f32⟩
  | .hbm, ⟨8, _⟩ => ⟨S32768x2048, .f32⟩
  | .local _ .vmem, ⟨0, _⟩ => ⟨S512x5632, .bf16⟩
  | .local _ .vmem, ⟨1, _⟩ => ⟨S512x5632, .bf16⟩
  | .local _ .vmem, ⟨2, _⟩ => ⟨S5632x2048, .bf16⟩
  | .local _ .vmem, ⟨3, _⟩ => ⟨S512x2048, .f32⟩
  | .local _ .vmem, ⟨4, _⟩ => ⟨S512x2048, .f32⟩
  | .local _ .vmem, ⟨5, _⟩ => ⟨S1x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | _, _ => ⟨S32768x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S32768x5632 : Shape := ⟨2, ![32768, 5632]⟩
abbrev S5632x2048 : Shape := ⟨2, ![5632, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 40
  | .vmem => 0
  | .smem => 0
  | _ => 0

abbrev bufTy : (tb : Table) → Fin (tcTables nBuf tb) → BufTy
  | .hbm, ⟨0, _⟩ => ⟨S32768x5632, .bf16⟩
  | .hbm, ⟨1, _⟩ => ⟨S5632x2048, .f32⟩
  | .hbm, ⟨2, _⟩ => ⟨S32768x2048, .f32⟩
  | .hbm, ⟨3, _⟩ => ⟨S2048, .f32⟩
  | .hbm, ⟨4, _⟩ => ⟨S2048, .f32⟩
  | .hbm, ⟨5, _⟩ => ⟨S_, .f32⟩
  | .hbm, ⟨6, _⟩ => ⟨S32768x2048, .f32⟩
  | .hbm, ⟨7, _⟩ => ⟨S32768x2048, .f32⟩
  | .hbm, ⟨8, _⟩ => ⟨S32768x5632, .f32⟩
  | .hbm, ⟨9, _⟩ => ⟨S32768x2048, .f32⟩
  | .hbm, ⟨10, _⟩ => ⟨S32768x2048, .f32⟩
  | .hbm, ⟨11, _⟩ => ⟨S_, .f32⟩
  | .hbm, ⟨12, _⟩ => ⟨S32768, .f32⟩
  | .hbm, ⟨13, _⟩ => ⟨S32768x1, .f32⟩
  | .hbm, ⟨14, _⟩ => ⟨S_, .f32⟩
  | .hbm, ⟨15, _⟩ => ⟨S32768x1, .f32⟩
  | .hbm, ⟨16, _⟩ => ⟨S32768x1, .f32⟩
  | .hbm, ⟨17, _⟩ => ⟨S32768x2048, .f32⟩
  | .hbm, ⟨18, _⟩ => ⟨S32768x2048, .f32⟩
  | .hbm, ⟨19, _⟩ => ⟨S32768x2048, .f32⟩
  | .hbm, ⟨20, _⟩ => ⟨S_, .f32⟩
  | .hbm, ⟨21, _⟩ => ⟨S32768, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x2048, .f32⟩
  | .hbm, ⟨27, _⟩ => ⟨S32768x2048, .f32⟩
  | .hbm, ⟨28, _⟩ => ⟨S_, .f32⟩
  | .hbm, ⟨29, _⟩ => ⟨S32768x1, .f32⟩
  | .hbm, ⟨30, _⟩ => ⟨S32768x1, .f32⟩
  | .hbm, ⟨31, _⟩ => ⟨S32768x1, .f32⟩
  | .hbm, ⟨32, _⟩ => ⟨S32768x2048, .f32⟩
  | .hbm, ⟨33, _⟩ => ⟨S32768x2048, .f32⟩
  | .hbm, ⟨34, _⟩ => ⟨S1x2048, .f32⟩
  | .hbm, ⟨35, _⟩ => ⟨S32768x2048, .f32⟩
  | .hbm, ⟨36, _⟩ => ⟨S32768x2048, .f32⟩
  | .hbm, ⟨37, _⟩ => ⟨S1x2048, .f32⟩
  | .hbm, ⟨38, _⟩ => ⟨S32768x2048, .f32⟩
  | .hbm, ⟨39, _⟩ => ⟨S32768x2048, .f32⟩
  | _, _ => ⟨S32768x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]
-- ==== Kernel3.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S1x11264 : Shape := ⟨2, ![1, 11264]⟩
abbrev S32768x5632 : Shape := ⟨2, ![32768, 5632]⟩
abbrev S1024x2048 : Shape := ⟨2, ![1024, 2048]⟩
abbrev S16x2048 : Shape := ⟨2, ![16, 2048]⟩
abbrev S2048x512 : Shape := ⟨2, ![2048, 512]⟩
abbrev S3x512 : Shape := ⟨2, ![3, 512]⟩
abbrev S1x512 : Shape := ⟨2, ![1, 512]⟩
abbrev S1024x512 : Shape := ⟨2, ![1024, 512]⟩
abbrev S1040x2048 : Shape := ⟨2, ![1040, 2048]⟩
abbrev S1040x512 : Shape := ⟨2, ![1040, 512]⟩

abbrev nBuf : Space → Nat
  | .hbm => 7
  | .vmem => 21
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S2048x11264, .bf16⟩
  | .hbm, ⟨5, _⟩ => ⟨S1x11264, .f32⟩
  | .hbm, ⟨6, _⟩ => ⟨S32768x5632, .bf16⟩
  | .local _ .vmem, ⟨0, _⟩ => ⟨S1024x2048, .bf16⟩
  | .local _ .vmem, ⟨1, _⟩ => ⟨S1024x2048, .bf16⟩
  | .local _ .vmem, ⟨2, _⟩ => ⟨S16x2048, .bf16⟩
  | .local _ .vmem, ⟨3, _⟩ => ⟨S16x2048, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S3x512, .f32⟩
  | .local _ .vmem, ⟨9, _⟩ => ⟨S3x512, .f32⟩
  | .local _ .vmem, ⟨10, _⟩ => ⟨S3x512, .f32⟩
  | .local _ .vmem, ⟨11, _⟩ => ⟨S3x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1024x512, .bf16⟩
  | .local _ .vmem, ⟨17, _⟩ => ⟨S1024x512, .bf16⟩
  | .local _ .vmem, ⟨18, _⟩ => ⟨S1040x2048, .bf16⟩
  | .local _ .vmem, ⟨19, _⟩ => ⟨S1040x512, .f32⟩
  | .local _ .vmem, ⟨20, _⟩ => ⟨S1040x512, .f32⟩
  | _, _ => ⟨S32768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![32, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S3x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S32768x2048 : Shape := ⟨2, ![32768, 2048]⟩
abbrev S2048x11264 : Shape := ⟨2, ![2048, 11264]⟩
abbrev S3x11264 : Shape := ⟨2, ![3, 11264]⟩
abbrev S11264 : Shape := ⟨1, ![11264]⟩
abbrev S32768x11264 : Shape := ⟨2, ![32768, 11264]⟩
abbrev S4x8192x11264 : Shape := ⟨3, ![4, 8192, 11264]⟩
abbrev S_ : Shape := ⟨0, ![]⟩
abbrev S4x8194x11264 : Shape := ⟨3, ![4, 8194, 11264]⟩
abbrev S1x11264 : Shape := ⟨2, ![1, 11264]⟩
abbrev S1x1x11264 : Shape := ⟨3, ![1, 1, 11264]⟩
abbrev S4x8192x5632 : Shape := ⟨3, ![4, 8192, 5632]⟩
abbrev S32768x5632 : Shape := ⟨2, ![32768, 5632]⟩

abbrev nBuf : Space → Nat
  | .hbm => 47
  | .vmem => 0
  | .smem => 0
  | _ => 0

abbrev bufTy : (tb : Table) → Fin (tcTables nBuf tb) → BufTy
  | .hbm, ⟨0, _⟩ => ⟨S32768x2048, .bf16⟩
  | .hbm, ⟨1, _⟩ => ⟨S2048x11264, .f32⟩
  | .hbm, ⟨2, _⟩ => ⟨S3x11264, .f32⟩
  | .hbm, ⟨3, _⟩ => ⟨S11264, .f32⟩
  | .hbm, ⟨4, _⟩ => ⟨S32768x2048, .f32⟩
  | .hbm, ⟨5, _⟩ => ⟨S32768x11264, .f32⟩
  | .hbm, ⟨6, _⟩ => ⟨S4x8192x11264, .f32⟩
  | .hbm, ⟨7, _⟩ => ⟨S_, .i32⟩
  | .hbm, ⟨8, _⟩ => ⟨S_, .f32⟩
  | .hbm, ⟨9, _⟩ => ⟨S4x8194x11264, .f32⟩
  | .hbm, ⟨10, _⟩ => ⟨S1x11264, .f32⟩
  | .hbm, ⟨11, _⟩ => ⟨S11264, .f32⟩
  | .hbm, ⟨12, _⟩ => ⟨S4x8192x11264, .f32⟩
  | .hbm, ⟨13, _⟩ => ⟨S1x1x11264, .f32⟩
  | .hbm, ⟨14, _⟩ => ⟨S4x8192x11264, .f32⟩
  | .hbm, ⟨15, _⟩ => ⟨S4x8192x11264, .f32⟩
  | .hbm, ⟨16, _⟩ => ⟨S1x11264, .f32⟩
  | .hbm, ⟨17, _⟩ => ⟨S11264, .f32⟩
  | .hbm, ⟨18, _⟩ => ⟨S4x8192x11264, .f32⟩
  | .hbm, ⟨19, _⟩ => ⟨S1x1x11264, .f32⟩
  | .hbm, ⟨20, _⟩ => ⟨S4x8192x11264, .f32⟩
  | .hbm, ⟨21, _⟩ => ⟨S4x8192x11264, .f32⟩
  | .hbm, ⟨22, _⟩ => ⟨S4x8192x11264, .f32⟩
  | .hbm, ⟨23, _⟩ => ⟨S1x11264, .f32⟩
  | .hbm, ⟨24, _⟩ => ⟨S11264, .f32⟩
  | .hbm, ⟨25, _⟩ => ⟨S4x8192x11264, .f32⟩
  | .hbm, ⟨26, _⟩ => ⟨S1x1x11264, .f32⟩
  | .hbm, ⟨27, _⟩ => ⟨S4x8192x11264, .f32⟩
  | .hbm, ⟨28, _⟩ => ⟨S4x8192x11264, .f32⟩
  | .hbm, ⟨29, _⟩ => ⟨S4x8192x11264, .f32⟩
  | .hbm, ⟨30, _⟩ => ⟨S1x1x11264, .f32⟩
  | .hbm, ⟨31, _⟩ => ⟨S4x8192x11264, .f32⟩
  | .hbm, ⟨32, _⟩ => ⟨S4x8192x11264, .f32⟩
  | .hbm, ⟨33, _⟩ => ⟨S4x8192x5632, .f32⟩
  | .hbm, ⟨34, _⟩ => ⟨S4x8192x5632, .f32⟩
  | .hbm, ⟨35, _⟩ => ⟨S4x8192x5632, .f32⟩
  | .hbm, ⟨36, _⟩ => ⟨S4x8192x5632, .f32⟩
  | .hbm, ⟨37, _⟩ => ⟨S_, .f32⟩
  | .hbm, ⟨38, _⟩ => ⟨S4x8192x5632, .f32⟩
  | .hbm, ⟨39, _⟩ => ⟨S4x8192x5632, .f32⟩
  | .hbm, ⟨40, _⟩ => ⟨S_, .f32⟩
  | .hbm, ⟨41, _⟩ => ⟨S4x8192x5632, .f32⟩
  | .hbm, ⟨42, _⟩ => ⟨S4x8192x5632, .f32⟩
  | .hbm, ⟨43, _⟩ => ⟨S4x8192x5632, .f32⟩
  | .hbm, ⟨44, _⟩ => ⟨S4x8192x5632, .f32⟩
  | .hbm, ⟨45, _⟩ => ⟨S32768x5632, .f32⟩
  | .hbm, ⟨46, _⟩ => ⟨S32768x5632, .bf16⟩
  | _, _ => ⟨S32768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_call1_v0 : Ref sig .tc := ⟨.hbm, 35, rfl⟩
abbrev main_call1_v1 : Ref sig .tc := ⟨.hbm, 36, rfl⟩
abbrev main_call1_cst : Ref sig .tc := ⟨.hbm, 37, rfl⟩
abbrev main_call1_v2 : Ref sig .tc := ⟨.hbm, 38, rfl⟩
abbrev main_call1_v3 : Ref sig .tc := ⟨.hbm, 39, rfl⟩
abbrev main_call1_cst_0 : Ref sig .tc := ⟨.hbm, 40, rfl⟩
abbrev main_call1_v4 : Ref sig .tc := ⟨.hbm, 41, rfl⟩
abbrev main_call1_v5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩

abbrev nD : Nat := 1
abbrev τ : Topo := Topo.v7x

variable {F : FTy → Type} [FloatOps F]
-- ==== Kernel4.lean ====
abbrev S32768x1024 : Shape := ⟨2, ![32768, 1024]⟩
abbrev S2048x2048 : Shape := ⟨2, ![2048, 2048]⟩
abbrev S32768x2048 : Shape := ⟨2, ![32768, 2048]⟩
abbrev S2048 : Shape := ⟨1, ![2048]⟩
abbrev S1x2048 : Shape := ⟨2, ![1, 2048]⟩
abbrev S512x1024 : Shape := ⟨2, ![512, 1024]⟩
abbrev S512x2048 : Shape := ⟨2, ![512, 2048]⟩
abbrev S128x1024 : Shape := ⟨2, ![128, 1024]⟩
abbrev S1024x2048 : Shape := ⟨2, ![1024, 2048]⟩
abbrev S128x2048 : Shape := ⟨2, ![128, 2048]⟩
abbrev S128 : Shape := ⟨1, ![128]⟩
abbrev S128x1 : Shape := ⟨2, ![128, 1]⟩

abbrev nBuf : Space → Nat
  | .hbm => 11
  | .vmem => 13
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S2048x2048, .bf16⟩
  | .hbm, ⟨7, _⟩ => ⟨S1x2048, .f32⟩
  | .hbm, ⟨8, _⟩ => ⟨S1x2048, .f32⟩
  | .hbm, ⟨9, _⟩ => ⟨S32768x2048, .f32⟩
  | .hbm, ⟨10, _⟩ => ⟨S32768x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S2048x2048, .bf16⟩
  | .local _ .vmem, ⟨5, _⟩ => ⟨S512x2048, .f32⟩
  | .local _ .vmem, ⟨6, _⟩ => ⟨S512x2048, .f32⟩
  | .local _ .vmem, ⟨7, _⟩ => ⟨S1x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S512x2048, .bf16⟩
  | .local _ .vmem, ⟨12, _⟩ => ⟨S512x2048, .bf16⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x1024 : Shape := ⟨2, ![32768, 1024]⟩
abbrev S2048x2048 : Shape := ⟨2, ![2048, 2048]⟩
abbrev S32768x2048 : Shape := ⟨2, ![32768, 2048]⟩
abbrev S2048 : Shape := ⟨1, ![2048]⟩
abbrev S_ : Shape := ⟨0, ![]⟩
abbrev S32768 : Shape := ⟨1, ![32768]⟩
abbrev S32768x1 : Shape := ⟨2, ![32768, 1]⟩
abbrev S1x2048 : Shape := ⟨2, ![1, 2048]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S2048x2048, .f32⟩
  | .hbm, ⟨3, _⟩ => ⟨S32768x2048, .f32⟩
  | .hbm, ⟨4, _⟩ => ⟨S2048, .f32⟩
  | .hbm, ⟨5, _⟩ => ⟨S2048, .f32⟩
  | .hbm, ⟨6, _⟩ => ⟨S32768x2048, .bf16⟩
  | .hbm, ⟨7, _⟩ => ⟨S32768x2048, .f32⟩
  | .hbm, ⟨8, _⟩ => ⟨S_, .f32⟩
  | .hbm, ⟨9, _⟩ => ⟨S32768x2048, .f32⟩
  | .hbm, ⟨10, _⟩ => ⟨S32768x2048, .f32⟩
  | .hbm, ⟨11, _⟩ => ⟨S32768x2048, .f32⟩
  | .hbm, ⟨12, _⟩ => ⟨S32768x2048, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S_, .f32⟩
  | .hbm, ⟨17, _⟩ => ⟨S32768x1, .f32⟩
  | .hbm, ⟨18, _⟩ => ⟨S32768x1, .f32⟩
  | .hbm, ⟨19, _⟩ => ⟨S32768x2048, .f32⟩
  | .hbm, ⟨20, _⟩ => ⟨S32768x2048, .f32⟩
  | .hbm, ⟨21, _⟩ => ⟨S32768x2048, .f32⟩
  | .hbm, ⟨22, _⟩ => ⟨S_, .f32⟩
  | .hbm, ⟨23, _⟩ => ⟨S32768, .f32⟩
  | .hbm, ⟨24, _⟩ => ⟨S32768x1, .f32⟩
  | .hbm, ⟨25, _⟩ => ⟨S_, .f32⟩
  | .hbm, ⟨26, _⟩ => ⟨S32768x1, .f32⟩
  | .hbm, ⟨27, _⟩ => ⟨S32768x1, .f32⟩
  | .hbm, ⟨28, _⟩ => ⟨S32768x2048, .f32⟩
  | .hbm, ⟨29, _⟩ => ⟨S32768x2048, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S32768x1, .f32⟩
  | .hbm, ⟨34, _⟩ => ⟨S32768x2048, .f32⟩
  | .hbm, ⟨35, _⟩ => ⟨S32768x2048, .f32⟩
  | .hbm, ⟨36, _⟩ => ⟨S1x2048, .f32⟩
  | .hbm, ⟨37, _⟩ => ⟨S32768x2048, .f32⟩
  | .hbm, ⟨38, _⟩ => ⟨S32768x2048, .f32⟩
  | .hbm, ⟨39, _⟩ => ⟨S1x2048, .f32⟩
  | .hbm, ⟨40, _⟩ => ⟨S32768x2048, .f32⟩
  | .hbm, ⟨41, _⟩ => ⟨S32768x2048, .f32⟩
  | .hbm, ⟨42, _⟩ => ⟨S32768x2048, .bf16⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Proof.Mix.Body.lean ====
/- The mixer kernel's body as 16 blocks of 256 rows, each one retention step followed by four gated-linear-attention
   steps of 64 rows: the values a step computes, the step as a program, and the printed body as their sequence. -/
module

public import proofs.«01_k».proof.KernelIdeal
public import Idealize.ShloMosaic.Lib.Tactic

@[expose] public section

noncomputable section

namespace Cert.KernelIdeal.Mix

open Idealize.ShloMosaic Idealize.ShloMosaic.TcCoe Idealize.SL.Sem
open Cert.KernelIdeal

variable {F : FTy → Type} [FloatOps F] [Facts]
open Facts₀ Facts

/-! ## What one step computes -/

/-- A retention block before the head norm: the decayed scores against the values, plus the queries against the state. -/
def retPre (q k v : FVec F S256x256 .bf16) (dm qd : FVec F S1x256x256 .f32) (s : FVec F S256x256 .f32) : FVec F S256x256 .f32 :=
  addf
    (matmul dot_S256x256_S256x256_S256x256_1_0_0_1_n_n none
      (truncf .bf16 (mulf (matmul dot_S256x256_S256x256_S256x256_1_1_0_0_n_n none q k (constant S256x256 .f32 0x00000000#32))
        (shapeCast S256x256 dm shapeCasts_S1x256x256_S256x256)) bitsLt_bf16_f32)
      v (constant S256x256 .f32 0x00000000#32))
    (mulf (shapeCast S256x256 qd shapeCasts_S1x256x256_S256x256)
      (matmul dot_S256x256_S256x256_S256x256_1_0_0_1_n_n none q (truncf .bf16 s bitsLt_bf16_f32) (constant S256x256 .f32 0x00000000#32)))

/-- The retention state after a block. -/
def retState (k v : FVec F S256x256 .bf16) (kd : FVec F S1x256x256 .f32) (sd : FVec F S1x1x256 .f32) (s : FVec F S256x256 .f32) :
    FVec F S256x256 .f32 :=
  shapeCast S256x256
    (addf (mulf s (broadcastTo S256x256 (shapeCast S1x256 sd shapeCasts_S1x1x256_S1x256) broadcasts_S1x256_S256x256))
      (matmul dot_S256x256_S256x256_S256x256_0_0_1_1_n_n none k
        (truncf .bf16 (mulf (extf .f32 v bitsLt_bf16_f32) (shapeCast S256x256 kd shapeCasts_S1x256x256_S256x256)) bitsLt_bf16_f32)
        (constant S256x256 .f32 0x00000000#32)))
    shapeCasts_S256x256_S256x256

/-- A block of rows less their means. -/
def retCentre (o : FVec F S256x256 .f32) : FVec F S256x256 .f32 :=
  subf o (broadcastTo S256x256
    (divf (shapeCast S256x1 (multiReduction .add [1] S256 o 0x00000000#32 reduces_S256x256_S256 (.inl rfl) rfl) shapeCasts_S256_S256x1)
      (broadcast S256x1 (Scalar.ofBits .f32 0x43800000#32))) broadcasts_S256x1_S256x256)

/-- Rows scaled by the reciprocal root of their mean square. -/
def retScale (o : FVec F S256x256 .f32) : FVec F S256x256 .f32 :=
  mulf o (broadcastTo S256x256
    (rsqrt (addf (divf (shapeCast S256x1 (multiReduction .add [1] S256 (mulf o o) 0x00000000#32 reduces_S256x256_S256 (.inl rfl) rfl)
          shapeCasts_S256_S256x1)
        (broadcast S256x1 (Scalar.ofBits .f32 0x43800000#32)))
      (broadcast S256x1 (Scalar.ofBits .f32 0x3727C5AC#32)))) broadcasts_S256x1_S256x256)

/-- The gate `z / (1 + exp (0 - z))`. -/
def retGate (z : FVec F S256x256 .bf16) : FVec F S256x256 .f32 :=
  divf (extf .f32 z bitsLt_bf16_f32)
    (addf (broadcast S256x256 (Scalar.ofBits .f32 0x3F800000#32))
      (exp (subf (broadcast S256x256 (Scalar.ofBits .f32 0x00000000#32)) (extf .f32 z bitsLt_bf16_f32))))

/-- What a retention block stores: the centred head norm times the gain times the gate. -/
def retOut (o : FVec F S256x256 .f32) (g : FVec F S1x256 .f32) (z : FVec F S256x256 .bf16) : FVec F S256x256 .bf16 :=
  truncf .bf16 (mulf (mulf (retScale (retCentre o)) (broadcastTo S256x256 g broadcasts_S1x256_S256x256)) (retGate z)) bitsLt_bf16_f32

/-- The cumulative gate of a chunk less its middle row. -/
def glaRel (b : FVec F S64x128 .f32) : FVec F S64x128 .f32 :=
  subf b (broadcastTo S64x128 (extractStridedSlice S1x128 ![32, 0] b slices_S64x128_o32_0_S1x128) broadcasts_S1x128_S64x128)

/-- `exp (0 - x)` of the relative gate. -/
def glaNeg (b : FVec F S64x128 .f32) : FVec F S64x128 .f32 :=
  exp (subf (broadcast S64x128 (Scalar.ofBits .f32 0x00000000#32)) (glaRel b))

/-- The scores inside a chunk. -/
def glaScore (m : IVec S64x64 1) (b : FVec F S64x128 .f32) (q k : FVec F S64x128 .bf16) : FVec F S64x64 .f32 :=
  select m
    (matmul dot_S64x128_S64x128_S64x64_1_1_0_0_n_n none
      (truncf .bf16 (mulf (extf .f32 q bitsLt_bf16_f32) (exp (glaRel b))) bitsLt_bf16_f32)
      (truncf .bf16 (mulf (extf .f32 k bitsLt_bf16_f32) (glaNeg b)) bitsLt_bf16_f32) (constant S64x64 .f32 0x00000000#32))
    (matmul dot_S64x128_S64x128_S64x64_1_1_0_0_n_n none
      (truncf .bf16 (mulf (extf .f32 q bitsLt_bf16_f32) (glaNeg b)) bitsLt_bf16_f32)
      (truncf .bf16 (mulf (extf .f32 k bitsLt_bf16_f32) (exp (glaRel b))) bitsLt_bf16_f32) (constant S64x64 .f32 0x00000000#32))

/-- A chunk before the head norm: the scores against the values, plus the gated queries against the state. -/
def glaPre (m : IVec S64x64 1) (b : FVec F S64x128 .f32) (q k : FVec F S64x128 .bf16) (v : FVec F S64x256 .bf16)
    (s : FVec F S256x128 .f32) : FVec F S64x256 .f32 :=
  addf
    (matmul dot_S64x64_S64x256_S64x256_1_0_0_1_n_n none (truncf .bf16 (glaScore m b q k) bitsLt_bf16_f32) v
      (constant S64x256 .f32 0x00000000#32))
    (matmul dot_S64x128_S256x128_S64x256_1_1_0_0_n_n none
      (truncf .bf16 (mulf (extf .f32 q bitsLt_bf16_f32) (exp b)) bitsLt_bf16_f32) (truncf .bf16 s bitsLt_bf16_f32)
      (constant S64x256 .f32 0x00000000#32))

/-- The last row of a chunk's cumulative gate. -/
def glaLast (b : FVec F S64x128 .f32) : FVec F S1x128 .f32 := extractStridedSlice S1x128 ![63, 0] b slices_S64x128_o63_0_S1x128

/-- The gated-linear-attention state after a chunk (values by keys). -/
def glaState (b : FVec F S64x128 .f32) (k : FVec F S64x128 .bf16) (v : FVec F S64x256 .bf16) (s : FVec F S256x128 .f32) :
    FVec F S256x128 .f32 :=
  shapeCast S256x128
    (addf (mulf s (broadcastTo S256x128 (exp (glaLast b)) broadcasts_S1x128_S256x128))
      (matmul dot_S64x256_S64x128_S256x128_0_0_1_1_n_n none v
        (truncf .bf16 (mulf (extf .f32 k bitsLt_bf16_f32) (exp (subf (broadcastTo S64x128 (glaLast b) broadcasts_S1x128_S64x128) b)))
          bitsLt_bf16_f32)
        (constant S256x128 .f32 0x00000000#32)))
    shapeCasts_S256x128_S256x128

/-- Rows scaled by the reciprocal root of their mean square. -/
def glaScale (o : FVec F S64x256 .f32) : FVec F S64x256 .f32 :=
  mulf o (broadcastTo S64x256
    (rsqrt (addf (divf (shapeCast S64x1 (multiReduction .add [1] S64 (mulf o o) 0x00000000#32 reduces_S64x256_S64 (.inl rfl) rfl)
          shapeCasts_S64_S64x1)
        (broadcast S64x1 (Scalar.ofBits .f32 0x43800000#32)))
      (broadcast S64x1 (Scalar.ofBits .f32 0x3727C5AC#32)))) broadcasts_S64x1_S64x256)

/-- The gate `z / (1 + exp (0 - z))`. -/
def glaGate (z : FVec F S64x256 .bf16) : FVec F S64x256 .f32 :=
  divf (extf .f32 z bitsLt_bf16_f32)
    (addf (broadcast S64x256 (Scalar.ofBits .f32 0x3F800000#32))
      (exp (subf (broadcast S64x256 (Scalar.ofBits .f32 0x00000000#32)) (extf .f32 z bitsLt_bf16_f32))))

/-- What a chunk stores: the head norm times the gain times the gate. -/
def glaOut (o : FVec F S64x256 .f32) (g : FVec F S1x256 .f32) (z : FVec F S64x256 .bf16) : FVec F S64x256 .bf16 :=
  truncf .bf16 (mulf (mulf (glaScale o) (broadcastTo S64x256 g broadcasts_S1x256_S64x256)) (glaGate z)) bitsLt_bf16_f32

/-- Row at or below column. -/
def causal : IVec S64x64 1 :=
  cmpi .sge (iota .tc S64x64 32 [0] iota_S64x64_d0_w32) (iota .tc S64x64 32 [1] iota_S64x64_d1_w32)

/-! ## Where a step reads and writes -/

theorem inR (o : ℕ) (h : o + 256 ≤ 4096) : ∀ a, (![o, 0] : Fin 2 → Nat) a + S256x256.size a ≤ S4096x256.size a := by
  intro a; match a with
  | ⟨0, _⟩ => exact h
  | ⟨1, _⟩ => exact Nat.le_refl 256

theorem inG (o : ℕ) (h : o + 64 ≤ 4096) : ∀ a, (![o, 0] : Fin 2 → Nat) a + S64x256.size a ≤ S4096x256.size a := by
  intro a; match a with
  | ⟨0, _⟩ => exact h
  | ⟨1, _⟩ => exact Nat.le_refl 256

theorem inK (o : ℕ) (h : o + 64 ≤ 4096) : ∀ a, (![o, 0] : Fin 2 → Nat) a + S64x128.size a ≤ S4096x128.size a := by
  intro a; match a with
  | ⟨0, _⟩ => exact h
  | ⟨1, _⟩ => exact Nat.le_refl 128

theorem packR (o : ℕ) (h : o + 256 ≤ 4096) (hd : 2 ∣ o) :
    (Rect.unit (s := S4096x256) ![o, 0] S256x256.size (inR o h)).PackedRows (EltTy.packing .bf16) :=
  .inr ⟨Nat.le_refl 2, rfl, .inl ⟨hd, ⟨128, rfl⟩⟩⟩

theorem packG (o : ℕ) (h : o + 64 ≤ 4096) (hd : 2 ∣ o) :
    (Rect.unit (s := S4096x256) ![o, 0] S64x256.size (inG o h)).PackedRows (EltTy.packing .bf16) :=
  .inr ⟨Nat.le_refl 2, rfl, .inl ⟨hd, ⟨32, rfl⟩⟩⟩

/-- 256 rows of a 4096-row window. -/
abbrev rectR (o : ℕ) (h : o + 256 ≤ 4096) : Rect S4096x256 := Rect.unit (s := S4096x256) ![o, 0] S256x256.size (inR o h)
/-- 64 rows of a 4096-row window of 256 lanes. -/
abbrev rectG (o : ℕ) (h : o + 64 ≤ 4096) : Rect S4096x256 := Rect.unit (s := S4096x256) ![o, 0] S64x256.size (inG o h)
/-- 64 rows of a 4096-row window of 128 lanes. -/
abbrev rectK (o : ℕ) (h : o + 64 ≤ 4096) : Rect S4096x128 := Rect.unit (s := S4096x128) ![o, 0] S64x128.size (inK o h)
/-- A whole table block, a whole row of decays, a whole gain row, the two whole states. -/
abbrev rectT : Rect S1x256x256 := Rect.unit (s := S1x256x256) ![0, 0, 0] S1x256x256.size inb_S1x256x256_S1x256x256_0_0_0
abbrev rectD : Rect S1x1x256 := Rect.unit (s := S1x1x256) ![0, 0, 0] S1x1x256.size inb_S1x1x256_S1x1x256_0_0_0
abbrev rectN : Rect S1x256 := Rect.unit (s := S1x256) ![0, 0] S1x256.size inb_S1x256_S1x256_0_0
abbrev rectSr : Rect S256x256 := Rect.unit (s := S256x256) ![0, 0] S256x256.size inb_S256x256_S256x256_0_0
abbrev rectSg : Rect S256x128 := Rect.unit (s := S256x128) ![0, 0] S256x128.size inb_S256x128_S256x128_0_0

/-! ## The steps as programs -/

/-- One retention step, on the 256 rows from `o`. -/
def retStep (arg3 : Memref sig .tc .vmem S4096x256 .bf16) (arg4 : Memref sig .tc .vmem S4096x256 .bf16) (arg5 : Memref sig .tc .vmem S4096x256 .bf16) (arg6 : Memref sig .tc .vmem S4096x256 .bf16) (arg12 : Memref sig .tc .vmem S1x256x256 .f32) (arg13 : Memref sig .tc .vmem S1x256x256 .f32) (arg14 : Memref sig .tc .vmem S1x256x256 .f32) (arg15 : Memref sig .tc .vmem S1x1x256 .f32) (arg18 : Memref sig .tc .vmem S4096x256 .bf16) (harg18 : arg18.IsWhole) (arg20 : Memref sig .tc .vmem S256x256 .f32)
    (g : FVec F S1x256 .f32) (o : ℕ) (h : o + 256 ≤ 4096) (hd : 2 ∣ o) : Prog (TpuEff nD τ sig (Elt F) Λ₀ .tc) PUnit := do
  let q : Vec F S256x256 .bf16 ← Prog.lift (.load arg3 (rectR o h).toLoadRect (View.loadsAt_vmem h_S256x256))
  let k : Vec F S256x256 .bf16 ← Prog.lift (.load arg4 (rectR o h).toLoadRect (View.loadsAt_vmem h_S256x256))
  let v : Vec F S256x256 .bf16 ← Prog.lift (.load arg5 (rectR o h).toLoadRect (View.loadsAt_vmem h_S256x256))
  let dm : Vec F S1x256x256 .f32 ← Prog.lift (.load arg12 rectT.toLoadRect (View.loadsAt_vmem h_S1x256x256))
  let s : Vec F S256x256 .f32 ← Prog.lift (.load arg20 rectSr.toLoadRect (View.loadsAt_vmem h_S256x256))
  let qd : Vec F S1x256x256 .f32 ← Prog.lift (.load arg13 rectT.toLoadRect (View.loadsAt_vmem h_S1x256x256))
  let kd : Vec F S1x256x256 .f32 ← Prog.lift (.load arg14 rectT.toLoadRect (View.loadsAt_vmem h_S1x256x256))
  let sd : Vec F S1x1x256 .f32 ← Prog.lift (.load arg15 rectD.toLoadRect (View.loadsAt_vmem h_S1x1x256))
  let _ : Vec F S256x256 .f32 ← Prog.lift (.load arg20 rectSr.toLoadRect (View.loadsAt_vmem h_S256x256))
  Prog.lift (.store arg20 rectSr (retState k v kd sd s) Finset.univ (View.stores_vmem_bits_univ h_S256x256 rfl) (.inl rfl))
  let z : Vec F S256x256 .bf16 ← Prog.lift (.load arg6 (rectR o h).toLoadRect (View.loadsAt_vmem h_S256x256))
  let _ : Vec F S256x256 .bf16 ← Prog.lift (.load arg18 (rectR o h).toLoadRect (View.loadsAt_vmem h_S256x256))
  Prog.lift (.store arg18 (rectR o h) (retOut (retPre q k v dm qd s) g z) Finset.univ
    (View.stores_vmem h_S256x256 (harg18.storeExact_slice rfl _ (packR o h hd)) (fun _ => rfl)) (.inl rfl))

/-- One gated-linear-attention step, on the 64 rows from `o`. -/
def glaStep (arg7 : Memref sig .tc .vmem S4096x128 .bf16) (arg8 : Memref sig .tc .vmem S4096x128 .bf16) (arg9 : Memref sig .tc .vmem S4096x256 .bf16) (arg10 : Memref sig .tc .vmem S4096x256 .bf16) (arg11 : Memref sig .tc .vmem S4096x128 .f32) (arg19 : Memref sig .tc .vmem S4096x256 .bf16) (harg19 : arg19.IsWhole) (arg21 : Memref sig .tc .vmem S256x128 .f32)
    (m : IVec S64x64 1) (g : FVec F S1x256 .f32) (o : ℕ) (h : o + 64 ≤ 4096) (hd : 2 ∣ o) : Prog (TpuEff nD τ sig (Elt F) Λ₀ .tc) PUnit := do
  let b : Vec F S64x128 .f32 ← Prog.lift (.load arg11 (rectK o h).toLoadRect (View.loadsAt_vmem h_S64x128))
  let q : Vec F S64x128 .bf16 ← Prog.lift (.load arg7 (rectK o h).toLoadRect (View.loadsAt_vmem h_S64x128))
  let k : Vec F S64x128 .bf16 ← Prog.lift (.load arg8 (rectK o h).toLoadRect (View.loadsAt_vmem h_S64x128))
  let v : Vec F S64x256 .bf16 ← Prog.lift (.load arg9 (rectG o h).toLoadRect (View.loadsAt_vmem h_S64x256))
  let s : Vec F S256x128 .f32 ← Prog.lift (.load arg21 rectSg.toLoadRect (View.loadsAt_vmem h_S256x128))
  let _ : Vec F S256x128 .f32 ← Prog.lift (.load arg21 rectSg.toLoadRect (View.loadsAt_vmem h_S256x128))
  Prog.lift (.store arg21 rectSg (glaState b k v s) Finset.univ (View.stores_vmem_bits_univ h_S256x128 rfl) (.inl rfl))
  let z : Vec F S64x256 .bf16 ← Prog.lift (.load arg10 (rectG o h).toLoadRect (View.loadsAt_vmem h_S64x256))
  let _ : Vec F S64x256 .bf16 ← Prog.lift (.load arg19 (rectG o h).toLoadRect (View.loadsAt_vmem h_S64x256))
  Prog.lift (.store arg19 (rectG o h) (glaOut (glaPre m b q k v s) g z) Finset.univ
    (View.stores_vmem h_S64x256 (harg19.storeExact_slice rfl _ (packG o h hd)) (fun _ => rfl)) (.inl rfl))

/-- The first `n` of a block's four chunks. -/
def chunks (arg7 : Memref sig .tc .vmem S4096x128 .bf16) (arg8 : Memref sig .tc .vmem S4096x128 .bf16) (arg9 : Memref sig .tc .vmem S4096x256 .bf16) (arg10 : Memref sig .tc .vmem S4096x256 .bf16) (arg11 : Memref sig .tc .vmem S4096x128 .f32) (arg19 : Memref sig .tc .vmem S4096x256 .bf16) (harg19 : arg19.IsWhole) (arg21 : Memref sig .tc .vmem S256x128 .f32)
    (m : IVec S64x64 1) (g : FVec F S1x256 .f32) (o : ℕ) (h : o + 256 ≤ 4096) (hd : 2 ∣ o) :
    (n : ℕ) → n ≤ 4 → Prog (TpuEff nD τ sig (Elt F) Λ₀ .tc) PUnit
  | 0, _ => pure ⟨⟩
  | n + 1, hn => do
    chunks arg7 arg8 arg9 arg10 arg11 arg19 harg19 arg21 m g o h hd n (by omega)
    glaStep arg7 arg8 arg9 arg10 arg11 arg19 harg19 arg21 m g (o + 64 * n) (by omega) (by omega)

/-- The first `n` of the sixteen blocks. -/
def blocks (arg3 : Memref sig .tc .vmem S4096x256 .bf16) (arg4 : Memref sig .tc .vmem S4096x256 .bf16) (arg5 : Memref sig .tc .vmem S4096x256 .bf16) (arg6 : Memref sig .tc .vmem S4096x256 .bf16) (arg7 : Memref sig .tc .vmem S4096x128 .bf16) (arg8 : Memref sig .tc .vmem S4096x128 .bf16) (arg9 : Memref sig .tc .vmem S4096x256 .bf16) (arg10 : Memref sig .tc .vmem S4096x256 .bf16) (arg11 : Memref sig .tc .vmem S4096x128 .f32) (arg12 : Memref sig .tc .vmem S1x256x256 .f32) (arg13 : Memref sig .tc .vmem S1x256x256 .f32) (arg14 : Memref sig .tc .vmem S1x256x256 .f32) (arg15 : Memref sig .tc .vmem S1x1x256 .f32) (arg18 : Memref sig .tc .vmem S4096x256 .bf16) (harg18 : arg18.IsWhole) (arg19 : Memref sig .tc .vmem S4096x256 .bf16) (harg19 : arg19.IsWhole) (arg20 : Memref sig .tc .vmem S256x256 .f32) (arg21 : Memref sig .tc .vmem S256x128 .f32)
    (m : IVec S64x64 1) (gr gg : FVec F S1x256 .f32) : (n : ℕ) → n ≤ 16 → Prog (TpuEff nD τ sig (Elt F) Λ₀ .tc) PUnit
  | 0, _ => pure ⟨⟩
  | n + 1, hn => do
    blocks arg3 arg4 arg5 arg6 arg7 arg8 arg9 arg10 arg11 arg12 arg13 arg14 arg15 arg18 harg18 arg19 harg19 arg20 arg21 m gr gg n (by omega)
    retStep arg3 arg4 arg5 arg6 arg12 arg13 arg14 arg15 arg18 harg18 arg20 gr (256 * n) (by omega) (by omega)
    chunks arg7 arg8 arg9 arg10 arg11 arg19 harg19 arg21 m gg (256 * n) (by omega) (by omega) 4 (by omega)

/-- Both states set to zero. -/
def clear (arg20 : Memref sig .tc .vmem S256x256 .f32) (arg21 : Memref sig .tc .vmem S256x128 .f32) :
    Prog (TpuEff nD τ sig (Elt F) Λ₀ .tc) PUnit := do
  let _ : Vec F S256x256 .f32 ← Prog.lift (.load arg20 rectSr.toLoadRect (View.loadsAt_vmem h_S256x256))
  Prog.lift (.store arg20 rectSr (shapeCast S256x256 (broadcast S256x256 (Scalar.ofBits .f32 0x00000000#32) : FVec F S256x256 .f32) shapeCasts_S256x256_S256x256)
    Finset.univ (View.stores_vmem_bits_univ h_S256x256 rfl) (.inl rfl))
  let _ : Vec F S256x128 .f32 ← Prog.lift (.load arg21 rectSg.toLoadRect (View.loadsAt_vmem h_S256x128))
  Prog.lift (.store arg21 rectSg (shapeCast S256x128 (broadcast S256x128 (Scalar.ofBits .f32 0x00000000#32) : FVec F S256x128 .f32) shapeCasts_S256x128_S256x128)
    Finset.univ (View.stores_vmem_bits_univ h_S256x128 rfl) (.inl rfl))

/-- The kernel's body once the states stand: the gains read, then the sixteen blocks. -/
def steps (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S1x256x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S256x256 .f32) (harg20 : arg20.IsWhole) (arg21 : Memref sig .tc .vmem S256x128 .f32) (harg21 : arg21.IsWhole) :
    Prog (TpuEff nD τ sig (Elt F) Λ₀ .tc) PUnit := do
  let gr : Vec F S1x256 .f32 ← Prog.lift (.load arg16 rectN.toLoadRect (View.loadsAt_vmem h_S1x256))
  let gg : Vec F S1x256 .f32 ← Prog.lift (.load arg17 rectN.toLoadRect (View.loadsAt_vmem h_S1x256))
  blocks arg3 arg4 arg5 arg6 arg7 arg8 arg9 arg10 arg11 arg12 arg13 arg14 arg15 arg18 harg18 arg19 harg19 arg20 arg21 causal (shapeCast S1x256 gr shapeCasts_S1x256_S1x256) (shapeCast S1x256 gg shapeCasts_S1x256_S1x256) 16 (Nat.le_refl 16)

/-- A grid point by its three coordinates. -/
def point (a : Fin 4) (b : Fin 4) (c : Fin 2) : grid0.Coords
  | ⟨0, _⟩ => a
  | ⟨1, _⟩ => b
  | ⟨2, _⟩ => c

theorem point_eta (i : grid0.Coords) : i = point (i 0) (i 1) (i 2) := by
  funext x
  match x with
  | ⟨0, _⟩ => rfl
  | ⟨1, _⟩ => rfl
  | ⟨2, _⟩ => rfl

set_option maxRecDepth 65536 in
set_option maxHeartbeats 4000000 in
/-- At a sequence's first block the printed body clears the states and then takes the steps. -/
theorem mixer_first (a b : Fin 4) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S1x256x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S256x256 .f32) (harg20 : arg20.IsWhole) (arg21 : Memref sig .tc .vmem S256x128 .f32) (harg21 : arg21.IsWhole) :
    cc0_mixer (F := F) (point a b 0) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = (do clear arg20 arg21; steps arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  sl_kernel_rfl

set_option maxRecDepth 65536 in
set_option maxHeartbeats 4000000 in
/-- At a sequence's second block it only takes the steps. -/
theorem mixer_second (a b : Fin 4) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S1x256x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S256x256 .f32) (harg20 : arg20.IsWhole) (arg21 : Memref sig .tc .vmem S256x128 .f32) (harg21 : arg21.IsWhole) :
    cc0_mixer (F := F) (point a b 1) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 = steps arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 := by
  sl_kernel_rfl

end Cert.KernelIdeal.Mix

end
-- ==== Proof.Mix.Steps.lean ====
/- The mixer's steps on the buffers they are given: what each reads and what it leaves, then the sixteen blocks of a grid
   point by induction on the number of steps taken. -/
module

public import proofs.«01_k».proof.Proof.Mix.Body
public import proofs.«01_k».proof.Proof.Gen.KernelIdeal.Launch
public import Idealize.ShloMosaic.Lib.Pipeline.FrameBody
public import Idealize.ShloMosaic.Lib.VecWindow
public import Idealize.ShloMosaic.Lib.ValueIdx
public import Idealize.ShloMosaic.Lib.Tactic

@[expose] public section

noncomputable section

namespace Cert.KernelIdeal.Mix

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The values -/

/-- `n` rows of a 4096-row block from row `o` on. -/
def rows {W : ℕ} {e : EltTy} (n : ℕ) (X : Vec F ⟨2, ![4096, W]⟩ e) (o : ℕ) : Vec F ⟨2, ![n, W]⟩ e :=
  fun x => X (ix2 ⟨(o + (x 0).val) % 4096, Nat.mod_lt _ (by decide)⟩ (x 1))

/-- What a grid point reads: the blocks of its fifteen input windows. -/
structure Ins (F : FTy → Type) [FloatOps F] where
  q : Vec F S4096x256 .bf16
  k : Vec F S4096x256 .bf16
  v : Vec F S4096x256 .bf16
  z : Vec F S4096x256 .bf16
  qg : Vec F S4096x128 .bf16
  kg : Vec F S4096x128 .bf16
  vg : Vec F S4096x256 .bf16
  zg : Vec F S4096x256 .bf16
  b : Vec F S4096x128 .f32
  dm : Vec F S1x256x256 .f32
  qd : Vec F S1x256x256 .f32
  kd : Vec F S1x256x256 .f32
  sd : Vec F S1x1x256 .f32
  gr : Vec F S1x256 .f32
  gg : Vec F S1x256 .f32

/-- The retention state after `n` blocks of 256 rows. -/
def stR (I : Ins F) (s : Vec F S256x256 .f32) : ℕ → Vec F S256x256 .f32
  | 0 => s
  | n + 1 => retState (rows 256 I.k (256 * n)) (rows 256 I.v (256 * n)) I.kd I.sd (stR I s n)

/-- The gated-linear-attention state after `n` chunks of 64 rows. -/
def stG (I : Ins F) (s : Vec F S256x128 .f32) : ℕ → Vec F S256x128 .f32
  | 0 => s
  | n + 1 => glaState (rows 64 I.b (64 * n)) (rows 64 I.kg (64 * n)) (rows 64 I.vg (64 * n)) (stG I s n)

/-- The retention rows of block `n`. -/
def blkR (I : Ins F) (s : Vec F S256x256 .f32) (n : ℕ) : Vec F S256x256 .bf16 :=
  retOut (retPre (rows 256 I.q (256 * n)) (rows 256 I.k (256 * n)) (rows 256 I.v (256 * n)) I.dm I.qd (stR I s n))
    (shapeCast S1x256 I.gr shapeCasts_S1x256_S1x256) (rows 256 I.z (256 * n))

/-- The gated-linear-attention rows of chunk `n`. -/
def blkG (I : Ins F) (s : Vec F S256x128 .f32) (n : ℕ) : Vec F S64x256 .bf16 :=
  glaOut (glaPre causal (rows 64 I.b (64 * n)) (rows 64 I.qg (64 * n)) (rows 64 I.kg (64 * n)) (rows 64 I.vg (64 * n)) (stG I s n))
    (shapeCast S1x256 I.gg shapeCasts_S1x256_S1x256) (rows 64 I.zg (64 * n))

/-- What a point leaves in the retention result's block. -/
def outR (I : Ins F) (s : Vec F S256x256 .f32) : Vec F S4096x256 .bf16 := fun y =>
  blkR I s ((y 0).val / 256) (ix2 (⟨(y 0).val % 256, Nat.mod_lt _ (by decide)⟩ : Fin 256) (y 1 : Fin 256))

/-- What a point leaves in the gated-linear-attention result's block. -/
def outG (I : Ins F) (s : Vec F S256x128 .f32) : Vec F S4096x256 .bf16 := fun y =>
  blkG I s ((y 0).val / 64) (ix2 (⟨(y 0).val % 64, Nat.mod_lt _ (by decide)⟩ : Fin 64) (y 1 : Fin 256))

/-- The zero states. -/
def zeroR : Vec F S256x256 .f32 :=
  shapeCast S256x256 (broadcast S256x256 (Scalar.ofBits .f32 0x00000000#32) : FVec F S256x256 .f32) shapeCasts_S256x256_S256x256
def zeroG : Vec F S256x128 .f32 :=
  shapeCast S256x128 (broadcast S256x128 (Scalar.ofBits .f32 0x00000000#32) : FVec F S256x128 .f32) shapeCasts_S256x128_S256x128

/-! ## Loads and stores of rows -/

/-- A load of `n` rows from row `o` reads them. -/
theorem readAt_rows {W n : ℕ} {e : EltTy} (v : View sig .tc .vmem (⟨2, ![4096, W]⟩ : Shape) e) (f : v.ty.Contents (Elt F))
    (X : Vec F ⟨2, ![4096, W]⟩ e) (hf : v.read (Elt F) f = X) (o : ℕ) (h : o + n ≤ 4096)
    (inb : ∀ a : Fin 2, (![o, 0] : Fin 2 → ℕ) a + (![n, W] : Fin 2 → ℕ) a ≤ (![4096, W] : Fin 2 → ℕ) a) :
    v.readAt (Elt F) (Rect.unit (s := (⟨2, ![4096, W]⟩ : Shape)) ![o, 0] ![n, W] inb).toLoadRect f = rows n X o := by
  subst hf
  funext x
  refine congrArg (v.read (Elt F) f) (funext fun a => Fin.ext ?_)
  have h0 : (x 0).val < n := (x 0).isLt
  match a with
  | ⟨0, _⟩ =>
    show o + 1 * (x 0).val = (o + (x 0).val) % 4096
    rw [Nat.mod_eq_of_lt (by omega)]; omega
  | ⟨1, _⟩ =>
    show 0 + 1 * (x 1).val = (x 1).val
    omega

/-- A store of `n` rows at row `o`: those rows hold the payload, the rows above are as they were. -/
theorem store_rows {W n : ℕ} {e : EltTy} (v : View sig .tc .vmem (⟨2, ![4096, W]⟩ : Shape) e) (f : v.ty.Contents (Elt F))
    (O : Vec F ⟨2, ![4096, W]⟩ e) (hf : v.read (Elt F) f = O) (o : ℕ) (h : o + n ≤ 4096)
    (inb : ∀ a : Fin 2, (![o, 0] : Fin 2 → ℕ) a + (![n, W] : Fin 2 → ℕ) a ≤ (![4096, W] : Fin 2 → ℕ) a)
    (w : Vec F ⟨2, ![n, W]⟩ e) :
    rows n (v.read (Elt F) (v.writes (Elt F) f [⟨Rect.unit (s := (⟨2, ![4096, W]⟩ : Shape)) ![o, 0] ![n, W] inb, w⟩])) o = w
    ∧ ∀ y : (⟨2, ![4096, W]⟩ : Shape).Idx, (y 0).val < o →
      v.read (Elt F) (v.writes (Elt F) f [⟨Rect.unit (s := (⟨2, ![4096, W]⟩ : Shape)) ![o, 0] ![n, W] inb, w⟩]) y = O y := by
  subst hf
  constructor
  · funext x
    have h0 : (x 0).val < n := (x 0).isLt
    refine View.read_writes_cons_rows_of_mem (d := ![4096, W]) v f inb w [] _ x rfl ?_ rfl
    show (o + (x 0).val) % 4096 = o + (x 0).val
    rw [Nat.mod_eq_of_lt (by omega)]
  · intro y hy
    exact (View.read_writes_cons_rows_of_not_mem (d := ![4096, W]) v f inb w [] y rfl rfl (.inl hy))

/-! ## The steps run -/

/-- Both states are cleared, whatever they held. -/
theorem clear_run (c : Dev nD) (E : Set ℕ) (arg20 : Memref sig .tc .vmem S256x256 .f32) (harg20 : arg20.IsWhole) (arg21 : Memref sig .tc .vmem S256x128 .f32) (harg21 : arg21.IsWhole)
    (K : PUnit → sProp 𝕄) :
    iprop((∃ d, owns (c : Thread nD τ) arg20 fullShare d) ∗ (∃ d, owns (c : Thread nD τ) arg21 fullShare d)
      ∗ (owns (c : Thread nD τ) arg20 fullShare zeroR ∗ owns (c : Thread nD τ) arg21 fullShare zeroG -∗ K ⟨⟩))
    ⊢ wp frame (wpE (defs₀ (F := F)) Variants.none c none) E (clear (F := F) arg20 arg21) K := by
  unfold owns clear
  iintro ⟨⟨%d0, %f0, %hf0, H0⟩, ⟨%d1, %f1, %hf1, H1⟩, Hk⟩
  sl_exec
  sl_step
  iapply Hk
  isplitl [H0]
  · iexists _; isplitr
    swap; · iexact H0
    ipureintro; exact View.read_writes_full _ _ _ _ _
  · iexists _; isplitr
    swap; · iexact H1
    ipureintro; exact View.read_writes_full _ _ _ _ _

set_option maxHeartbeats 1600000 in
/-- A retention step: its 256 rows of the result, the rows above untouched, and the state after them. -/
theorem retStep_run (c : Dev nD) (E : Set ℕ) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg12 : Memref sig .tc .vmem S1x256x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x1x256 .f32) (harg15 : arg15.IsWhole) (arg18 : Memref sig .tc .vmem S4096x256 .bf16) (harg18 : arg18.IsWhole) (arg20 : Memref sig .tc .vmem S256x256 .f32) (harg20 : arg20.IsWhole)
     (I : Ins F) (g : FVec F S1x256 .f32) (o : ℕ) (h : o + 256 ≤ 4096) (hd : 2 ∣ o) (s : Vec F S256x256 .f32) (O : Vec F S4096x256 .bf16)
    (K : PUnit → sProp 𝕄) :
    iprop(owns (c : Thread nD τ) arg3 fullShare (I.q) ∗ owns (c : Thread nD τ) arg4 fullShare (I.k) ∗ owns (c : Thread nD τ) arg5 fullShare (I.v) ∗ owns (c : Thread nD τ) arg6 fullShare (I.z) ∗ owns (c : Thread nD τ) arg12 fullShare (I.dm) ∗ owns (c : Thread nD τ) arg13 fullShare (I.qd) ∗ owns (c : Thread nD τ) arg14 fullShare (I.kd) ∗ owns (c : Thread nD τ) arg15 fullShare (I.sd)
      ∗ owns (c : Thread nD τ) arg18 fullShare O ∗ owns (c : Thread nD τ) arg20 fullShare s
      ∗ (owns (c : Thread nD τ) arg3 fullShare (I.q) ∗ owns (c : Thread nD τ) arg4 fullShare (I.k) ∗ owns (c : Thread nD τ) arg5 fullShare (I.v) ∗ owns (c : Thread nD τ) arg6 fullShare (I.z) ∗ owns (c : Thread nD τ) arg12 fullShare (I.dm) ∗ owns (c : Thread nD τ) arg13 fullShare (I.qd) ∗ owns (c : Thread nD τ) arg14 fullShare (I.kd) ∗ owns (c : Thread nD τ) arg15 fullShare (I.sd)
        ∗ (∃ O' : Vec F S4096x256 .bf16, ⌜rows 256 O' o = retOut (retPre (rows 256 I.q o) (rows 256 I.k o) (rows 256 I.v o) I.dm I.qd s) g (rows 256 I.z o) ∧ ∀ y : S4096x256.Idx, (y 0).val < o → O' y = O y⌝ ∗ owns (c : Thread nD τ) arg18 fullShare O')
        ∗ owns (c : Thread nD τ) arg20 fullShare (retState (rows 256 I.k o) (rows 256 I.v o) I.kd I.sd s) -∗ K ⟨⟩))
    ⊢ wp frame (wpE (defs₀ (F := F)) Variants.none c none) E (retStep (F := F) arg3 arg4 arg5 arg6 arg12 arg13 arg14 arg15 arg18 harg18 arg20 g o h hd) K := by
  unfold owns retStep
  iintro ⟨⟨%f3, %hf3, H3⟩, ⟨%f4, %hf4, H4⟩, ⟨%f5, %hf5, H5⟩, ⟨%f6, %hf6, H6⟩, ⟨%f12, %hf12, H12⟩, ⟨%f13, %hf13, H13⟩, ⟨%f14, %hf14, H14⟩, ⟨%f15, %hf15, H15⟩, ⟨%f18, %hf18, H18⟩, ⟨%f20, %hf20, H20⟩, Hk⟩
  sl_exec
  sl_step
  have e3 := readAt_rows arg3.view f3 _ hf3 o h (inR o h)
  have e4 := readAt_rows arg4.view f4 _ hf4 o h (inR o h)
  have e5 := readAt_rows arg5.view f5 _ hf5 o h (inR o h)
  have e6 := readAt_rows arg6.view f6 _ hf6 o h (inR o h)
  have e12 := (View.readAt_full arg12.view f12 inb_S1x256x256_S1x256x256_0_0_0).trans hf12
  have e13 := (View.readAt_full arg13.view f13 inb_S1x256x256_S1x256x256_0_0_0).trans hf13
  have e14 := (View.readAt_full arg14.view f14 inb_S1x256x256_S1x256x256_0_0_0).trans hf14
  have e15 := (View.readAt_full arg15.view f15 inb_S1x1x256_S1x1x256_0_0_0).trans hf15
  have e20 := (View.readAt_full arg20.view f20 inb_S256x256_S256x256_0_0).trans hf20
  iapply Hk
  isplitl [H3]
  · iexists f3; isplitr
    swap; · iexact H3
    ipureintro; exact hf3
  isplitl [H4]
  · iexists f4; isplitr
    swap; · iexact H4
    ipureintro; exact hf4
  isplitl [H5]
  · iexists f5; isplitr
    swap; · iexact H5
    ipureintro; exact hf5
  isplitl [H6]
  · iexists f6; isplitr
    swap; · iexact H6
    ipureintro; exact hf6
  isplitl [H12]
  · iexists f12; isplitr
    swap; · iexact H12
    ipureintro; exact hf12
  isplitl [H13]
  · iexists f13; isplitr
    swap; · iexact H13
    ipureintro; exact hf13
  isplitl [H14]
  · iexists f14; isplitr
    swap; · iexact H14
    ipureintro; exact hf14
  isplitl [H15]
  · iexists f15; isplitr
    swap; · iexact H15
    ipureintro; exact hf15
  isplitl [H18]
  · iexists _; isplitr
    swap
    · iexists _; isplitr
      swap; · iexact H18
      ipureintro; rfl
    ipureintro
    have hs := store_rows arg18.view f18 O hf18 o h (inR o h)
    rw [e3, e4, e5, e6, e12, e13, e20]
    exact hs _
  · iexists _; isplitr
    swap; · iexact H20
    ipureintro
    rw [View.read_writes_full, e4, e5, e14, e15, e20]

set_option maxHeartbeats 1600000 in
/-- A gated-linear-attention step: its 64 rows of the result, the rows above untouched, and the state after them. -/
theorem glaStep_run (c : Dev nD) (E : Set ℕ) (arg7 : Memref sig .tc .vmem S4096x128 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg19 : Memref sig .tc .vmem S4096x256 .bf16) (harg19 : arg19.IsWhole) (arg21 : Memref sig .tc .vmem S256x128 .f32) (harg21 : arg21.IsWhole)
    (m : IVec S64x64 1) (I : Ins F) (g : FVec F S1x256 .f32) (o : ℕ) (h : o + 64 ≤ 4096) (hd : 2 ∣ o) (s : Vec F S256x128 .f32) (O : Vec F S4096x256 .bf16)
    (K : PUnit → sProp 𝕄) :
    iprop(owns (c : Thread nD τ) arg7 fullShare (I.qg) ∗ owns (c : Thread nD τ) arg8 fullShare (I.kg) ∗ owns (c : Thread nD τ) arg9 fullShare (I.vg) ∗ owns (c : Thread nD τ) arg10 fullShare (I.zg) ∗ owns (c : Thread nD τ) arg11 fullShare (I.b)
      ∗ owns (c : Thread nD τ) arg19 fullShare O ∗ owns (c : Thread nD τ) arg21 fullShare s
      ∗ (owns (c : Thread nD τ) arg7 fullShare (I.qg) ∗ owns (c : Thread nD τ) arg8 fullShare (I.kg) ∗ owns (c : Thread nD τ) arg9 fullShare (I.vg) ∗ owns (c : Thread nD τ) arg10 fullShare (I.zg) ∗ owns (c : Thread nD τ) arg11 fullShare (I.b)
        ∗ (∃ O' : Vec F S4096x256 .bf16, ⌜rows 64 O' o = glaOut (glaPre m (rows 64 I.b o) (rows 64 I.qg o) (rows 64 I.kg o) (rows 64 I.vg o) s) g (rows 64 I.zg o) ∧ ∀ y : S4096x256.Idx, (y 0).val < o → O' y = O y⌝ ∗ owns (c : Thread nD τ) arg19 fullShare O')
        ∗ owns (c : Thread nD τ) arg21 fullShare (glaState (rows 64 I.b o) (rows 64 I.kg o) (rows 64 I.vg o) s) -∗ K ⟨⟩))
    ⊢ wp frame (wpE (defs₀ (F := F)) Variants.none c none) E (glaStep (F := F) arg7 arg8 arg9 arg10 arg11 arg19 harg19 arg21 m g o h hd) K := by
  unfold owns glaStep
  iintro ⟨⟨%f7, %hf7, H7⟩, ⟨%f8, %hf8, H8⟩, ⟨%f9, %hf9, H9⟩, ⟨%f10, %hf10, H10⟩, ⟨%f11, %hf11, H11⟩, ⟨%f19, %hf19, H19⟩, ⟨%f21, %hf21, H21⟩, Hk⟩
  sl_exec
  sl_step
  have e7 := readAt_rows arg7.view f7 _ hf7 o h (inK o h)
  have e8 := readAt_rows arg8.view f8 _ hf8 o h (inK o h)
  have e9 := readAt_rows arg9.view f9 _ hf9 o h (inG o h)
  have e10 := readAt_rows arg10.view f10 _ hf10 o h (inG o h)
  have e11 := readAt_rows arg11.view f11 _ hf11 o h (inK o h)
  have e21 := (View.readAt_full arg21.view f21 inb_S256x128_S256x128_0_0).trans hf21
  iapply Hk
  isplitl [H7]
  · iexists f7; isplitr
    swap; · iexact H7
    ipureintro; exact hf7
  isplitl [H8]
  · iexists f8; isplitr
    swap; · iexact H8
    ipureintro; exact hf8
  isplitl [H9]
  · iexists f9; isplitr
    swap; · iexact H9
    ipureintro; exact hf9
  isplitl [H10]
  · iexists f10; isplitr
    swap; · iexact H10
    ipureintro; exact hf10
  isplitl [H11]
  · iexists f11; isplitr
    swap; · iexact H11
    ipureintro; exact hf11
  isplitl [H19]
  · iexists _; isplitr
    swap
    · iexists _; isplitr
      swap; · iexact H19
      ipureintro; rfl
    ipureintro
    have hs := store_rows arg19.view f19 O hf19 o h (inG o h)
    rw [e7, e8, e9, e10, e11, e21]
    exact hs _
  · iexists _; isplitr
    swap; · iexact H21
    ipureintro
    rw [View.read_writes_full, e8, e9, e11, e21]

end Cert.KernelIdeal.Mix

end
-- ==== Proof.Mix.Blocks.lean ====
/- The mixer's sixteen blocks at a grid point: by induction on the steps taken, the rows written so far are the ones the
   pure functions give and the states are the folded ones. -/
module

public import proofs.«01_k».proof.Proof.Mix.Steps

@[expose] public section

noncomputable section

namespace Cert.KernelIdeal.Mix

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first `n` rows of the result stand. -/
def Upto (G : Vec F S4096x256 .bf16) (n : ℕ) (O : Vec F S4096x256 .bf16) : Prop :=
  ∀ y : S4096x256.Idx, (y 0).val < n → O y = G y

theorem upto_zero (G O : Vec F S4096x256 .bf16) : Upto G 0 O := fun _ h => absurd h (Nat.not_lt_zero _)

theorem upto_all {G O : Vec F S4096x256 .bf16} (h : Upto G 4096 O) : O = G := funext fun y => h y (y 0).isLt

/-- One more block of `W` rows stands. -/
theorem upto_step {G O O' : Vec F S4096x256 .bf16} {W o : ℕ} (B : Vec F ⟨2, ![W, 256]⟩ .bf16) (hW : 0 < W) (ho : o + W ≤ 4096)
    (hG : ∀ y : S4096x256.Idx, ∀ hy : o ≤ (y 0).val ∧ (y 0).val < o + W,
      G y = B (ix2 (⟨(y 0).val - o, by omega⟩ : Fin W) (y 1 : Fin 256)))
    (hrow : rows W O' o = B) (habove : ∀ y : S4096x256.Idx, (y 0).val < o → O' y = O y) (h : Upto G o O) : Upto G (o + W) O' := by
  intro y hy
  by_cases hlt : (y 0).val < o
  · rw [habove y hlt, h y hlt]
  · rw [hG y ⟨by omega, hy⟩, ← hrow]
    refine congrArg O' (funext fun a => Fin.ext ?_)
    have h0 : (y 0).val < 4096 := (y 0).isLt
    match a with
    | ⟨0, _⟩ =>
      show (y 0).val = (o + ((y 0).val - o)) % 4096
      rw [Nat.mod_eq_of_lt (by omega)]; omega
    | ⟨1, _⟩ => rfl

theorem outR_block (I : Ins F) (s : Vec F S256x256 .f32) (n : ℕ) (y : S4096x256.Idx) (hy : 256 * n ≤ (y 0).val ∧ (y 0).val < 256 * n + 256) :
    outR I s y = blkR I s n (ix2 (⟨(y 0).val - 256 * n, by omega⟩ : Fin 256) (y 1 : Fin 256)) := by
  have h1 : (y 0).val / 256 = n := by omega
  have h2 : (y 0).val % 256 = (y 0).val - 256 * n := by omega
  unfold outR
  simp only [h1, h2]

theorem outG_block (I : Ins F) (s : Vec F S256x128 .f32) (n : ℕ) (y : S4096x256.Idx) (hy : 64 * n ≤ (y 0).val ∧ (y 0).val < 64 * n + 64) :
    outG I s y = blkG I s n (ix2 (⟨(y 0).val - 64 * n, by omega⟩ : Fin 64) (y 1 : Fin 256)) := by
  have h1 : (y 0).val / 64 = n := by omega
  have h2 : (y 0).val % 64 = (y 0).val - 64 * n := by omega
  unfold outG
  simp only [h1, h2]

/-- The buffers of the retention steps after `n` of them. -/
def heldR (c : Dev nD) (arg3 : Memref sig .tc .vmem S4096x256 .bf16) (arg4 : Memref sig .tc .vmem S4096x256 .bf16) (arg5 : Memref sig .tc .vmem S4096x256 .bf16) (arg6 : Memref sig .tc .vmem S4096x256 .bf16) (arg12 : Memref sig .tc .vmem S1x256x256 .f32) (arg13 : Memref sig .tc .vmem S1x256x256 .f32) (arg14 : Memref sig .tc .vmem S1x256x256 .f32) (arg15 : Memref sig .tc .vmem S1x1x256 .f32) (arg18 : Memref sig .tc .vmem S4096x256 .bf16) (arg20 : Memref sig .tc .vmem S256x256 .f32) (I : Ins F) (s : Vec F S256x256 .f32) (n : ℕ) : sProp 𝕄 :=
  iprop(owns (c : Thread nD τ) arg3 fullShare (I.q) ∗ owns (c : Thread nD τ) arg4 fullShare (I.k) ∗ owns (c : Thread nD τ) arg5 fullShare (I.v) ∗ owns (c : Thread nD τ) arg6 fullShare (I.z) ∗ owns (c : Thread nD τ) arg12 fullShare (I.dm) ∗ owns (c : Thread nD τ) arg13 fullShare (I.qd) ∗ owns (c : Thread nD τ) arg14 fullShare (I.kd) ∗ owns (c : Thread nD τ) arg15 fullShare (I.sd)
    ∗ (∃ O : Vec F S4096x256 .bf16, ⌜Upto (outR I s) (256 * n) O⌝ ∗ owns (c : Thread nD τ) arg18 fullShare O)
    ∗ owns (c : Thread nD τ) arg20 fullShare (stR I s n))

/-- The buffers of the gated-linear-attention steps after `n` of them. -/
def heldG (c : Dev nD) (arg7 : Memref sig .tc .vmem S4096x128 .bf16) (arg8 : Memref sig .tc .vmem S4096x128 .bf16) (arg9 : Memref sig .tc .vmem S4096x256 .bf16) (arg10 : Memref sig .tc .vmem S4096x256 .bf16) (arg11 : Memref sig .tc .vmem S4096x128 .f32) (arg19 : Memref sig .tc .vmem S4096x256 .bf16) (arg21 : Memref sig .tc .vmem S256x128 .f32) (I : Ins F) (s : Vec F S256x128 .f32) (n : ℕ) : sProp 𝕄 :=
  iprop(owns (c : Thread nD τ) arg7 fullShare (I.qg) ∗ owns (c : Thread nD τ) arg8 fullShare (I.kg) ∗ owns (c : Thread nD τ) arg9 fullShare (I.vg) ∗ owns (c : Thread nD τ) arg10 fullShare (I.zg) ∗ owns (c : Thread nD τ) arg11 fullShare (I.b)
    ∗ (∃ O : Vec F S4096x256 .bf16, ⌜Upto (outG I s) (64 * n) O⌝ ∗ owns (c : Thread nD τ) arg19 fullShare O)
    ∗ owns (c : Thread nD τ) arg21 fullShare (stG I s n))

/-- One more retention step. -/
theorem ret_one (c : Dev nD) (E : Set ℕ) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg12 : Memref sig .tc .vmem S1x256x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x1x256 .f32) (harg15 : arg15.IsWhole) (arg18 : Memref sig .tc .vmem S4096x256 .bf16) (harg18 : arg18.IsWhole) (arg20 : Memref sig .tc .vmem S256x256 .f32) (harg20 : arg20.IsWhole) (I : Ins F) (s : Vec F S256x256 .f32) (n o : ℕ) (ho : o = 256 * n) (h : o + 256 ≤ 4096) (hd : 2 ∣ o)
    (K : PUnit → sProp 𝕄) :
    iprop(heldR c arg3 arg4 arg5 arg6 arg12 arg13 arg14 arg15 arg18 arg20 I s n ∗ (heldR c arg3 arg4 arg5 arg6 arg12 arg13 arg14 arg15 arg18 arg20 I s (n + 1) -∗ K ⟨⟩))
    ⊢ wp frame (wpE (defs₀ (F := F)) Variants.none c none) E (retStep (F := F) arg3 arg4 arg5 arg6 arg12 arg13 arg14 arg15 arg18 harg18 arg20 (shapeCast S1x256 I.gr shapeCasts_S1x256_S1x256) o h hd) K := by
  subst ho
  unfold heldR
  iintro ⟨⟨H3, H4, H5, H6, H12, H13, H14, H15, ⟨%O, %hO, HO⟩, HS⟩, Hk⟩
  iapply (retStep_run c E arg3 harg3 arg4 harg4 arg5 harg5 arg6 harg6 arg12 harg12 arg13 harg13 arg14 harg14 arg15 harg15 arg18 harg18 arg20 harg20 I (shapeCast S1x256 I.gr shapeCasts_S1x256_S1x256) (256 * n) h hd (stR I s n) O K)
  isplitl [H3]; · iexact H3
  isplitl [H4]; · iexact H4
  isplitl [H5]; · iexact H5
  isplitl [H6]; · iexact H6
  isplitl [H12]; · iexact H12
  isplitl [H13]; · iexact H13
  isplitl [H14]; · iexact H14
  isplitl [H15]; · iexact H15
  isplitl [HO]; · iexact HO
  isplitl [HS]; · iexact HS
  iintro ⟨H3, H4, H5, H6, H12, H13, H14, H15, ⟨%O', %hO', HO⟩, HS⟩
  iapply Hk
  isplitl [H3]; · iexact H3
  isplitl [H4]; · iexact H4
  isplitl [H5]; · iexact H5
  isplitl [H6]; · iexact H6
  isplitl [H12]; · iexact H12
  isplitl [H13]; · iexact H13
  isplitl [H14]; · iexact H14
  isplitl [H15]; · iexact H15
  isplitl [HO]
  · iexists O'; isplitr
    swap; · iexact HO
    ipureintro
    exact upto_step (blkR I s n) (by decide) h (outR_block I s n) hO'.1 hO'.2 hO
  · iexact HS

/-- One more gated-linear-attention step. -/
theorem gla_one (c : Dev nD) (E : Set ℕ) (arg7 : Memref sig .tc .vmem S4096x128 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg19 : Memref sig .tc .vmem S4096x256 .bf16) (harg19 : arg19.IsWhole) (arg21 : Memref sig .tc .vmem S256x128 .f32) (harg21 : arg21.IsWhole) (I : Ins F) (s : Vec F S256x128 .f32) (n o : ℕ) (ho : o = 64 * n) (h : o + 64 ≤ 4096) (hd : 2 ∣ o)
    (K : PUnit → sProp 𝕄) :
    iprop(heldG c arg7 arg8 arg9 arg10 arg11 arg19 arg21 I s n ∗ (heldG c arg7 arg8 arg9 arg10 arg11 arg19 arg21 I s (n + 1) -∗ K ⟨⟩))
    ⊢ wp frame (wpE (defs₀ (F := F)) Variants.none c none) E (glaStep (F := F) arg7 arg8 arg9 arg10 arg11 arg19 harg19 arg21 causal (shapeCast S1x256 I.gg shapeCasts_S1x256_S1x256) o h hd) K := by
  subst ho
  unfold heldG
  iintro ⟨⟨H7, H8, H9, H10, H11, ⟨%O, %hO, HO⟩, HS⟩, Hk⟩
  iapply (glaStep_run c E arg7 harg7 arg8 harg8 arg9 harg9 arg10 harg10 arg11 harg11 arg19 harg19 arg21 harg21 causal I (shapeCast S1x256 I.gg shapeCasts_S1x256_S1x256) (64 * n) h hd (stG I s n) O K)
  isplitl [H7]; · iexact H7
  isplitl [H8]; · iexact H8
  isplitl [H9]; · iexact H9
  isplitl [H10]; · iexact H10
  isplitl [H11]; · iexact H11
  isplitl [HO]; · iexact HO
  isplitl [HS]; · iexact HS
  iintro ⟨H7, H8, H9, H10, H11, ⟨%O', %hO', HO⟩, HS⟩
  iapply Hk
  isplitl [H7]; · iexact H7
  isplitl [H8]; · iexact H8
  isplitl [H9]; · iexact H9
  isplitl [H10]; · iexact H10
  isplitl [H11]; · iexact H11
  isplitl [HO]
  · iexists O'; isplitr
    swap; · iexact HO
    ipureintro
    exact upto_step (blkG I s n) (by decide) h (outG_block I s n) hO'.1 hO'.2 hO
  · iexact HS

/-- The chunks of a block. -/
theorem chunks_run (c : Dev nD) (E : Set ℕ) (arg7 : Memref sig .tc .vmem S4096x128 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg19 : Memref sig .tc .vmem S4096x256 .bf16) (harg19 : arg19.IsWhole) (arg21 : Memref sig .tc .vmem S256x128 .f32) (harg21 : arg21.IsWhole) (I : Ins F) (s : Vec F S256x128 .f32) (N o : ℕ) (ho : o = 64 * N) (h : o + 256 ≤ 4096) (hd : 2 ∣ o) :
    ∀ (n : ℕ) (hn : n ≤ 4) (K : PUnit → sProp 𝕄),
    iprop(heldG c arg7 arg8 arg9 arg10 arg11 arg19 arg21 I s N ∗ (heldG c arg7 arg8 arg9 arg10 arg11 arg19 arg21 I s (N + n) -∗ K ⟨⟩))
    ⊢ wp frame (wpE (defs₀ (F := F)) Variants.none c none) E
        (chunks (F := F) arg7 arg8 arg9 arg10 arg11 arg19 harg19 arg21 causal (shapeCast S1x256 I.gg shapeCasts_S1x256_S1x256) o h hd n hn) K
  | 0, _, K => by
    unfold chunks
    iintro ⟨H, Hk⟩
    sl_step
    iapply Hk
    iexact H
  | n + 1, hn, K => by
    unfold chunks
    rw [wp_bind]
    iintro ⟨H, Hk⟩
    iapply (chunks_run c E arg7 harg7 arg8 harg8 arg9 harg9 arg10 harg10 arg11 harg11 arg19 harg19 arg21 harg21 I s N o ho h hd n _ _)
    isplitl [H]; · iexact H
    iintro H
    iapply (gla_one c E arg7 harg7 arg8 harg8 arg9 harg9 arg10 harg10 arg11 harg11 arg19 harg19 arg21 harg21 I s (N + n) (o + 64 * n) (by omega) _ _ K)
    isplitl [H]; · iexact H
    iexact Hk

/-- The blocks of a grid point. -/
theorem blocks_run (c : Dev nD) (E : Set ℕ) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S1x256x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x1x256 .f32) (harg15 : arg15.IsWhole) (arg18 : Memref sig .tc .vmem S4096x256 .bf16) (harg18 : arg18.IsWhole) (arg19 : Memref sig .tc .vmem S4096x256 .bf16) (harg19 : arg19.IsWhole) (arg20 : Memref sig .tc .vmem S256x256 .f32) (harg20 : arg20.IsWhole) (arg21 : Memref sig .tc .vmem S256x128 .f32) (harg21 : arg21.IsWhole) (I : Ins F) (s : Vec F S256x256 .f32) (sg : Vec F S256x128 .f32) :
    ∀ (n : ℕ) (hn : n ≤ 16) (K : PUnit → sProp 𝕄),
    iprop(heldR c arg3 arg4 arg5 arg6 arg12 arg13 arg14 arg15 arg18 arg20 I s 0 ∗ heldG c arg7 arg8 arg9 arg10 arg11 arg19 arg21 I sg 0 ∗ (heldR c arg3 arg4 arg5 arg6 arg12 arg13 arg14 arg15 arg18 arg20 I s n ∗ heldG c arg7 arg8 arg9 arg10 arg11 arg19 arg21 I sg (4 * n) -∗ K ⟨⟩))
    ⊢ wp frame (wpE (defs₀ (F := F)) Variants.none c none) E
        (blocks (F := F) arg3 arg4 arg5 arg6 arg7 arg8 arg9 arg10 arg11 arg12 arg13 arg14 arg15 arg18 harg18 arg19 harg19 arg20 arg21 causal (shapeCast S1x256 I.gr shapeCasts_S1x256_S1x256) (shapeCast S1x256 I.gg shapeCasts_S1x256_S1x256) n hn) K
  | 0, _, K => by
    unfold blocks
    iintro ⟨H, HG, Hk⟩
    sl_step
    iapply Hk
    isplitl [H]; · iexact H
    iexact HG
  | n + 1, hn, K => by
    unfold blocks
    rw [wp_bind]
    iintro ⟨H, HG, Hk⟩
    iapply (blocks_run c E arg3 harg3 arg4 harg4 arg5 harg5 arg6 harg6 arg7 harg7 arg8 harg8 arg9 harg9 arg10 harg10 arg11 harg11 arg12 harg12 arg13 harg13 arg14 harg14 arg15 harg15 arg18 harg18 arg19 harg19 arg20 harg20 arg21 harg21 I s sg n _ _)
    isplitl [H]; · iexact H
    isplitl [HG]; · iexact HG
    iintro ⟨H, HG⟩
    rw [wp_bind]
    iapply (ret_one c E arg3 harg3 arg4 harg4 arg5 harg5 arg6 harg6 arg12 harg12 arg13 harg13 arg14 harg14 arg15 harg15 arg18 harg18 arg20 harg20 I s n (256 * n) rfl _ _ _)
    isplitl [H]; · iexact H
    iintro H
    iapply (chunks_run c E arg7 harg7 arg8 harg8 arg9 harg9 arg10 harg10 arg11 harg11 arg19 harg19 arg21 harg21 I sg (4 * n) (256 * n) (by omega) _ _ 4 _ K)
    isplitl [HG]; · iexact HG
    iintro HG
    iapply Hk
    isplitl [H]; · iexact H
    iexact HG

/-- The two gain rows read before the blocks. -/
theorem gains_run (c : Dev nD) (E : Set ℕ) (arg16 : Memref sig .tc .vmem S1x256 .f32) (harg16 : arg16.IsWhole) (arg17 : Memref sig .tc .vmem S1x256 .f32) (harg17 : arg17.IsWhole) (gr gg : Vec F S1x256 .f32)
    (p : Vec F S1x256 .f32 → Vec F S1x256 .f32 → Prog (TpuEff nD τ sig (Elt F) Λ₀ .tc) PUnit) (K : PUnit → sProp 𝕄) :
    iprop(owns (c : Thread nD τ) arg16 fullShare gr ∗ owns (c : Thread nD τ) arg17 fullShare gg
      ∗ (owns (c : Thread nD τ) arg16 fullShare gr ∗ owns (c : Thread nD τ) arg17 fullShare gg -∗ wp frame (wpE (defs₀ (F := F)) Variants.none c none) E (p gr gg) K))
    ⊢ wp frame (wpE (defs₀ (F := F)) Variants.none c none) E (do
      let x : Vec F S1x256 .f32 ← Prog.lift (.load arg16 rectN.toLoadRect (View.loadsAt_vmem h_S1x256))
      let y : Vec F S1x256 .f32 ← Prog.lift (.load arg17 rectN.toLoadRect (View.loadsAt_vmem h_S1x256))
      p x y) K := by
  unfold owns
  iintro ⟨⟨%f16, %hf16, H16⟩, ⟨%f17, %hf17, H17⟩, Hk⟩
  have e16 := (View.readAt_full arg16.view f16 inb_S1x256_S1x256_0_0).trans hf16
  have e17 := (View.readAt_full arg17.view f17 inb_S1x256_S1x256_0_0).trans hf17
  sl_exec
  iapply Hk
  isplitl [H16]
  · iexists f16; isplitr
    swap; · iexact H16
    ipureintro; exact hf16
  · iexists f17; isplitr
    swap; · iexact H17
    ipureintro; exact hf17

seal blocks in
set_option maxHeartbeats 1600000 in
/-- A grid point once the states stand: both result blocks are filled and the states are folded over the point's rows. -/
theorem steps_run (c : Dev nD) (E : Set ℕ) (arg3 : Memref sig .tc .vmem S4096x256 .bf16) (harg3 : arg3.IsWhole) (arg4 : Memref sig .tc .vmem S4096x256 .bf16) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S4096x128 .bf16) (harg7 : arg7.IsWhole) (arg8 : Memref sig .tc .vmem S4096x128 .bf16) (harg8 : arg8.IsWhole) (arg9 : Memref sig .tc .vmem S4096x256 .bf16) (harg9 : arg9.IsWhole) (arg10 : Memref sig .tc .vmem S4096x256 .bf16) (harg10 : arg10.IsWhole) (arg11 : Memref sig .tc .vmem S4096x128 .f32) (harg11 : arg11.IsWhole) (arg12 : Memref sig .tc .vmem S1x256x256 .f32) (harg12 : arg12.IsWhole) (arg13 : Memref sig .tc .vmem S1x256x256 .f32) (harg13 : arg13.IsWhole) (arg14 : Memref sig .tc .vmem S1x256x256 .f32) (harg14 : arg14.IsWhole) (arg15 : Memref sig .tc .vmem S1x1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S4096x256 .bf16) (harg18 : arg18.IsWhole) (arg19 : Memref sig .tc .vmem S4096x256 .bf16) (harg19 : arg19.IsWhole) (arg20 : Memref sig .tc .vmem S256x256 .f32) (harg20 : arg20.IsWhole) (arg21 : Memref sig .tc .vmem S256x128 .f32) (harg21 : arg21.IsWhole) (I : Ins F) (s : Vec F S256x256 .f32) (sg : Vec F S256x128 .f32) (K : PUnit → sProp 𝕄) :
    iprop(owns (c : Thread nD τ) arg3 fullShare (I.q) ∗ owns (c : Thread nD τ) arg4 fullShare (I.k) ∗ owns (c : Thread nD τ) arg5 fullShare (I.v) ∗ owns (c : Thread nD τ) arg6 fullShare (I.z) ∗ owns (c : Thread nD τ) arg7 fullShare (I.qg) ∗ owns (c : Thread nD τ) arg8 fullShare (I.kg) ∗ owns (c : Thread nD τ) arg9 fullShare (I.vg) ∗ owns (c : Thread nD τ) arg10 fullShare (I.zg) ∗ owns (c : Thread nD τ) arg11 fullShare (I.b) ∗ owns (c : Thread nD τ) arg12 fullShare (I.dm) ∗ owns (c : Thread nD τ) arg13 fullShare (I.qd) ∗ owns (c : Thread nD τ) arg14 fullShare (I.kd) ∗ owns (c : Thread nD τ) arg15 fullShare (I.sd) ∗ owns (c : Thread nD τ) arg16 fullShare (I.gr) ∗ owns (c : Thread nD τ) arg17 fullShare (I.gg)
      ∗ (∃ d, owns (c : Thread nD τ) arg18 fullShare d) ∗ (∃ d, owns (c : Thread nD τ) arg19 fullShare d) ∗ owns (c : Thread nD τ) arg20 fullShare s ∗ owns (c : Thread nD τ) arg21 fullShare sg
      ∗ (owns (c : Thread nD τ) arg3 fullShare (I.q) ∗ owns (c : Thread nD τ) arg4 fullShare (I.k) ∗ owns (c : Thread nD τ) arg5 fullShare (I.v) ∗ owns (c : Thread nD τ) arg6 fullShare (I.z) ∗ owns (c : Thread nD τ) arg7 fullShare (I.qg) ∗ owns (c : Thread nD τ) arg8 fullShare (I.kg) ∗ owns (c : Thread nD τ) arg9 fullShare (I.vg) ∗ owns (c : Thread nD τ) arg10 fullShare (I.zg) ∗ owns (c : Thread nD τ) arg11 fullShare (I.b) ∗ owns (c : Thread nD τ) arg12 fullShare (I.dm) ∗ owns (c : Thread nD τ) arg13 fullShare (I.qd) ∗ owns (c : Thread nD τ) arg14 fullShare (I.kd) ∗ owns (c : Thread nD τ) arg15 fullShare (I.sd) ∗ owns (c : Thread nD τ) arg16 fullShare (I.gr) ∗ owns (c : Thread nD τ) arg17 fullShare (I.gg)
        ∗ owns (c : Thread nD τ) arg18 fullShare (outR I s) ∗ owns (c : Thread nD τ) arg19 fullShare (outG I sg) ∗ owns (c : Thread nD τ) arg20 fullShare (stR I s 16) ∗ owns (c : Thread nD τ) arg21 fullShare (stG I sg 64) -∗ K ⟨⟩))
    ⊢ wp frame (wpE (defs₀ (F := F)) Variants.none c none) E (steps (F := F) arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  unfold steps
  iintro ⟨H3, H4, H5, H6, H7, H8, H9, H10, H11, H12, H13, H14, H15, H16, H17, ⟨%d18, H18⟩, ⟨%d19, H19⟩, H20, H21, Hk⟩
  iapply (gains_run c E arg16 harg16 arg17 harg17 I.gr I.gg _ K)
  isplitl [H16]; · iexact H16
  isplitl [H17]; · iexact H17
  iintro ⟨H16, H17⟩
  iapply (blocks_run c E arg3 harg3 arg4 harg4 arg5 harg5 arg6 harg6 arg7 harg7 arg8 harg8 arg9 harg9 arg10 harg10 arg11 harg11 arg12 harg12 arg13 harg13 arg14 harg14 arg15 harg15 arg18 harg18 arg19 harg19 arg20 harg20 arg21 harg21 I s sg 16 (Nat.le_refl 16) K)
  unfold heldR heldG
  isplitl [H3 H4 H5 H6 H12 H13 H14 H15 H18 H20]
  · isplitl [H3]; · iexact H3
    isplitl [H4]; · iexact H4
    isplitl [H5]; · iexact H5
    isplitl [H6]; · iexact H6
    isplitl [H12]; · iexact H12
    isplitl [H13]; · iexact H13
    isplitl [H14]; · iexact H14
    isplitl [H15]; · iexact H15
    isplitl [H18]
    · iexists d18; isplitr
      swap; · iexact H18
      ipureintro; exact upto_zero _ _
    iexact H20
  isplitl [H7 H8 H9 H10 H11 H19 H21]
  · isplitl [H7]; · iexact H7
    isplitl [H8]; · iexact H8
    isplitl [H9]; · iexact H9
    isplitl [H10]; · iexact H10
    isplitl [H11]; · iexact H11
    isplitl [H19]
    · iexists d19; isplitr
      swap; · iexact H19
      ipureintro; exact upto_zero _ _
    iexact H21
  iintro ⟨⟨H3, H4, H5, H6, H12, H13, H14, H15, ⟨%O, %hO, H18⟩, H20⟩, H7, H8, H9, H10, H11, ⟨%O', %hO', H19⟩, H21⟩
  obtain rfl := upto_all hO
  obtain rfl := upto_all hO'
  iapply Hk
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

end Cert.KernelIdeal.Mix

end
-- ==== Proof.Mix.Run.lean ====
/- The mixer's run: the proof data of its pipeline (both results by value, the two states carried between the points of a
   sequence), the body at a point, and the run of @main at any scalars. -/
module

public import proofs.«01_k».proof.Proof.Mix.Blocks
public import proofs.«01_k».proof.Proof.Gen.KernelIdeal.Frame.Runs
public import Idealize.ShloMosaic.Lib.Claim

@[expose] public section

noncomputable section

namespace Cert.KernelIdeal.Mix

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point reads and leaves -/

/-- The blocks of a point's input windows. -/
def ins (c : Dev nD) (t : Fin cfg0.N) : Ins F where
  q := iblk m c 0 t
  k := iblk m c 1 t
  v := iblk m c 2 t
  z := iblk m c 3 t
  qg := iblk m c 4 t
  kg := iblk m c 5 t
  vg := iblk m c 6 t
  zg := iblk m c 7 t
  b := iblk m c 8 t
  dm := iblk m c 9 t
  qd := iblk m c 10 t
  kd := iblk m c 11 t
  sd := iblk m c 12 t
  gr := iblk m c 13 t
  gg := iblk m c 14 t

seal iblk in theorem ins_q (c : Dev nD) (t : Fin cfg0.N) : Eq (ins m c t).q (iblk m c 0 t) := (rfl)
seal iblk in theorem ins_k (c : Dev nD) (t : Fin cfg0.N) : Eq (ins m c t).k (iblk m c 1 t) := (rfl)
seal iblk in theorem ins_v (c : Dev nD) (t : Fin cfg0.N) : Eq (ins m c t).v (iblk m c 2 t) := (rfl)
seal iblk in theorem ins_z (c : Dev nD) (t : Fin cfg0.N) : Eq (ins m c t).z (iblk m c 3 t) := (rfl)
seal iblk in theorem ins_qg (c : Dev nD) (t : Fin cfg0.N) : Eq (ins m c t).qg (iblk m c 4 t) := (rfl)
seal iblk in theorem ins_kg (c : Dev nD) (t : Fin cfg0.N) : Eq (ins m c t).kg (iblk m c 5 t) := (rfl)
seal iblk in theorem ins_vg (c : Dev nD) (t : Fin cfg0.N) : Eq (ins m c t).vg (iblk m c 6 t) := (rfl)
seal iblk in theorem ins_zg (c : Dev nD) (t : Fin cfg0.N) : Eq (ins m c t).zg (iblk m c 7 t) := (rfl)
seal iblk in theorem ins_b (c : Dev nD) (t : Fin cfg0.N) : Eq (ins m c t).b (iblk m c 8 t) := (rfl)
seal iblk in theorem ins_dm (c : Dev nD) (t : Fin cfg0.N) : Eq (ins m c t).dm (iblk m c 9 t) := (rfl)
seal iblk in theorem ins_qd (c : Dev nD) (t : Fin cfg0.N) : Eq (ins m c t).qd (iblk m c 10 t) := (rfl)
seal iblk in theorem ins_kd (c : Dev nD) (t : Fin cfg0.N) : Eq (ins m c t).kd (iblk m c 11 t) := (rfl)
seal iblk in theorem ins_sd (c : Dev nD) (t : Fin cfg0.N) : Eq (ins m c t).sd (iblk m c 12 t) := (rfl)
seal iblk in theorem ins_gr (c : Dev nD) (t : Fin cfg0.N) : Eq (ins m c t).gr (iblk m c 13 t) := (rfl)
seal iblk in theorem ins_gg (c : Dev nD) (t : Fin cfg0.N) : Eq (ins m c t).gg (iblk m c 14 t) := (rfl)

/-- The point before. -/
def prev (t : Fin cfg0.N) : Fin cfg0.N := ⟨t.val - 1, Nat.lt_of_le_of_lt (Nat.sub_le _ _) t.isLt⟩

/-- The states a point starts from: zero at the first block of a sequence, otherwise what the block before left. -/
def entR (c : Dev nD) (t : Fin cfg0.N) : Vec F S256x256 .f32 :=
  if t.val % 2 = 0 then zeroR else stR (ins m c (prev t)) zeroR 16
def entG (c : Dev nD) (t : Fin cfg0.N) : Vec F S256x128 .f32 :=
  if t.val % 2 = 0 then zeroG else stG (ins m c (prev t)) zeroG 64

/-- The states a point leaves. -/
def endR (c : Dev nD) (t : Fin cfg0.N) : Vec F S256x256 .f32 := stR (ins m c t) (entR m c t) 16
def endG (c : Dev nD) (t : Fin cfg0.N) : Vec F S256x128 .f32 := stG (ins m c t) (entG m c t) 64

theorem entR_of_odd (c : Dev nD) (t : Fin cfg0.N) (h : ¬ t.val % 2 = 0) : entR m c t = endR m c (prev t) := by
  have hp : (prev t).val % 2 = 0 := by show (t.val - 1) % 2 = 0; omega
  unfold endR entR
  rw [if_neg h, if_pos hp]

theorem entG_of_odd (c : Dev nD) (t : Fin cfg0.N) (h : ¬ t.val % 2 = 0) : entG m c t = endG m c (prev t) := by
  have hp : (prev t).val % 2 = 0 := by show (t.val - 1) % 2 = 0; omega
  unfold endG entG
  rw [if_neg h, if_pos hp]

/-- Before the first point the states are at anything; afterwards they are what the point before left. -/
def PhiS (c : Dev nD) : (n : ℕ) → n ≤ cfg0.N → sProp 𝕄
  | 0, _ => Pipeline.ΦA spec0 c
  | n + 1, hn => iprop(iprop(owns (c : Thread nD τ) scM0_0 fullShare (endR m c ⟨n, hn⟩) ∗ owns (c : Thread nD τ) scM0_1 fullShare (endG m c ⟨n, hn⟩)) ∗ (∃ r, prngReg c r))

theorem PhiS_pos (c : Dev nD) (t : Fin cfg0.N) (h : t.val ≤ cfg0.N) (hz : t.val ≠ 0) :
    PhiS m c t.val h = iprop(iprop(owns (c : Thread nD τ) scM0_0 fullShare (endR m c (prev t)) ∗ owns (c : Thread nD τ) scM0_1 fullShare (endG m c (prev t))) ∗ (∃ r, prngReg c r)) := by
  obtain ⟨n, hn⟩ := t
  cases n with
  | zero => exact absurd rfl hz
  | succ n => rfl

/-- At any point the states are at something. -/
theorem PhiS_any (c : Dev nD) (t : Fin (cfg0.N + 1)) :
    PhiS m c t.val (Nat.le_of_lt_succ t.isLt) ⊢ (Pipeline.ΦA spec0 c : sProp 𝕄) := by
  obtain ⟨n, hn⟩ := t
  cases n with
  | zero => exact .rfl
  | succ n =>
    rw [PhiA0_eq]
    show iprop(iprop(owns (c : Thread nD τ) scM0_0 fullShare (endR m c ⟨n, _⟩) ∗ owns (c : Thread nD τ) scM0_1 fullShare (endG m c ⟨n, _⟩)) ∗ (∃ r, prngReg c r)) ⊢ _
    iintro ⟨⟨H0, H1⟩, Hg⟩
    isplitl [H0 H1]
    · isplitl [H0]
      · iexists _; iexact H0
      iexists _; iexact H1
    iexact Hg

/-! ## The proof data -/

/-- Each input's buffer at its block, each result's at the rows the pure functions give. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outR (ins m c t) (entR m c t)
    | ⟨16, _⟩ => outG (ins m c t) (entG m c t)
    | ⟨_ + 17, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = outR (ins m c t) (entR m c t) := by dsimp only [dats]
theorem after_16 (c : Dev nD) (t : Fin cfg0.N) : (dats m 0 c).after 16 t = outG (ins m c t) (entG m c t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

/-- What it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t))

theorem coords_two (t : Fin cfg0.N) : (grid0.coords t 2).val = t.val % 2 := by
  have h : (grid0.coords t 2).val = t.val / 1 % 2 := Pipeline.Grid.coords_val t 2 (by decide) rfl
  rw [h, Nat.div_one]

theorem point_zero (i : grid0.Coords) (h : (i 2).val = 0) : ∃ a b : Fin 4, i = point a b 0 :=
  ⟨i 0, i 1, (point_eta i).trans (congrArg (point (i 0) (i 1)) (Fin.ext h))⟩

theorem point_one (i : grid0.Coords) (h : (i 2).val = 1) : ∃ a b : Fin 4, i = point a b 1 :=
  ⟨i 0, i 1, (point_eta i).trans (congrArg (point (i 0) (i 1)) (Fin.ext h))⟩

seal steps clear iblk in
set_option maxHeartbeats 3200000 in
/-- The body as cleared states and steps, by the third coordinate. -/
theorem body_run (c : Dev nD) (t : Fin cfg0.N) (K : PUnit → sProp 𝕄) :
    iprop((if t.val % 2 = 0 then iprop((∃ d, owns (c : Thread nD τ) scM0_0 fullShare d) ∗ (∃ d, owns (c : Thread nD τ) scM0_1 fullShare d))
        else iprop(owns (c : Thread nD τ) scM0_0 fullShare (entR m c t) ∗ owns (c : Thread nD τ) scM0_1 fullShare (entG m c t)))
      ∗ (owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t)) ∗ (∃ d, owns (c : Thread nD τ) (ms0_15 t) fullShare d) ∗ (∃ d, owns (c : Thread nD τ) (ms0_16 t) fullShare d)
      ∗ ((owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t)) ∗ owns (c : Thread nD τ) (ms0_15 t) fullShare (outR (ins m c t) (entR m c t)) ∗ owns (c : Thread nD τ) (ms0_16 t) fullShare (outG (ins m c t) (entG m c t))
        ∗ owns (c : Thread nD τ) scM0_0 fullShare (endR m c t) ∗ owns (c : Thread nD τ) scM0_1 fullShare (endG m c t) -∗ K ⟨⟩))
    ⊢ wp frame (wpE (defs₀ (F := F)) Variants.none c none) Set.univ (bodyAt0 t) K := by
  have hsteps := steps_run (F := F) c Set.univ (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) (ins m c t) (entR m c t) (entG m c t) K
  simp only [ins_q, ins_k, ins_v, ins_z, ins_qg, ins_kg, ins_vg, ins_zg, ins_b, ins_dm, ins_qd, ins_kd, ins_sd, ins_gr, ins_gg] at hsteps
  unfold bodyAt0
  by_cases h0 : t.val % 2 = 0
  · obtain ⟨a, b, hc⟩ := point_zero (grid0.coords t) ((coords_two t).trans h0)
    rw [hc, mixer_first, wp_bind, if_pos h0]
    iintro ⟨⟨HS0, HS1⟩, ⟨H0, H1, H2, H3, H4, H5, H6, H7, H8, H9, H10, H11, H12, H13, H14⟩, H15, H16, Hk⟩
    iapply (clear_run (F := F) c Set.univ scM0_0 (Memref.isWhole_whole _) scM0_1 (Memref.isWhole_whole _) _)
    isplitl [HS0]; · iexact HS0
    isplitl [HS1]; · iexact HS1
    iintro ⟨HS0, HS1⟩
    rw [show (zeroR : Vec F S256x256 .f32) = entR m c t from (if_pos h0).symm, show (zeroG : Vec F S256x128 .f32) = entG m c t from (if_pos h0).symm]
    iapply hsteps
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    iintro ⟨H0, H1, H2, H3, H4, H5, H6, H7, H8, H9, H10, H11, H12, H13, H14, H15, H16, HS0, HS1⟩
    iapply Hk
    isplitl [H0 H1 H2 H3 H4 H5 H6 H7 H8 H9 H10 H11 H12 H13 H14]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexact H15
    isplitl [H16]; · iexact H16
    isplitl [HS0]; · iexact HS0
    iexact HS1
  · obtain ⟨a, b, hc⟩ := point_one (grid0.coords t) ((coords_two t).trans (by omega))
    rw [hc, mixer_second, if_neg h0]
    iintro ⟨⟨HS0, HS1⟩, ⟨H0, H1, H2, H3, H4, H5, H6, H7, H8, H9, H10, H11, H12, H13, H14⟩, H15, H16, Hk⟩
    iapply hsteps
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [HS0]; · iexact HS0
    isplitl [HS1]; · iexact HS1
    iintro ⟨H0, H1, H2, H3, H4, H5, H6, H7, H8, H9, H10, H11, H12, H13, H14, H15, H16, HS0, HS1⟩
    iapply Hk
    isplitl [H0 H1 H2 H3 H4 H5 H6 H7 H8 H9 H10 H11 H12 H13 H14]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      iexact H14
    isplitl [H15]; · iexact H15
    isplitl [H16]; · iexact H16
    isplitl [HS0]; · iexact HS0
    iexact HS1

seal iblk in
set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5, before_6, before_7, before_8, before_9, before_10, before_11, before_12, before_13, before_14]
  rw [show (dats m 0 c).owesAt () t.succ = (dats m 0 c).owesAt () t.castSucc from rfl,
    after_0, after_1, after_2, after_3, after_4, after_5, after_6, after_7, after_8, after_9, after_10, after_11, after_12, after_13, after_14, after_15, after_16]
  rw [show (dats m 0 c).Φ t.succ = iprop(iprop(owns (c : Thread nD τ) scM0_0 fullShare (endR m c t) ∗ owns (c : Thread nD τ) scM0_1 fullShare (endG m c t)) ∗ (∃ r, prngReg c r)) from rfl,
    show (dats m 0 c).Φ t.castSucc = PhiS m c t.val (Nat.le_of_lt t.isLt) from rfl]
  have hstate : PhiS m c t.val (Nat.le_of_lt t.isLt) ⊢
      (iprop((if t.val % 2 = 0 then iprop((∃ d, owns (c : Thread nD τ) scM0_0 fullShare d) ∗ (∃ d, owns (c : Thread nD τ) scM0_1 fullShare d))
        else iprop(owns (c : Thread nD τ) scM0_0 fullShare (entR m c t) ∗ owns (c : Thread nD τ) scM0_1 fullShare (entG m c t))) ∗ (∃ r, prngReg c r)) : sProp 𝕄) := by
    by_cases h0 : t.val % 2 = 0
    · rw [if_pos h0]
      exact (PhiS_any m c t.castSucc).trans (by rw [PhiA0_eq])
    · rw [if_neg h0, PhiS_pos m c t _ (fun h => h0 (by rw [h])), entR_of_odd m c t h0, entG_of_odd m c t h0]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  ihave HP' := hstate $$ HP
  icases HP' with ⟨HS, Hg⟩
  iapply (body_run m c t _)
  isplitl [HS]; · iexact HS
  isplitl [H0 H1 H2 H3 H4 H5 H6 H7 H8 H9 H10 H11 H12 H13 H14]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iexact H14
  isplitl [H15]; · iexists _; iexact H15
  isplitl [H16]; · iexists _; iexact H16
  iintro ⟨⟨H0, H1, H2, H3, H4, H5, H6, H7, H8, H9, H10, H11, H12, H13, H14⟩, H15, H16, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

/-- The body's entry at a point's slots is the body as the pipeline passes it. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

/-- The run of @main, at any scalars: every array as the pipeline leaves it, the rest as the host left it. -/
theorem run_main_quiescent : θ_run defs (onTc (τ := τ) (main (F := F))) (s₀ m ρ)
    (fun r => Pipeline.FramePost cfgs (dats m) 0 (V m) r ∧ r.2.sem = fun _ => 0) :=
  Pipeline.θ_run_frame_track_shared (Q' := fun r => Pipeline.FramePost cfgs (dats m) 0 (V m) r ∧ r.2.sem = fun _ => 0)
    cfgs (dats m) (0 : Fin 1) launch₀0 defs₀ Variants.none m ρ main
    (hbody := fun c => (body_obligation m c).loose) (hq := fun _ _ _ => rfl) (howed := fun _ _ => rfl)
    (V := V m) (hmain := hmain m Variants.none) (hA := A_eq m)
    (hin := fun _ => .rfl) (hout := fun c => PhiS_any m c (Fin.last cfg0.N))

theorem run_main : θ_run defs (onTc (τ := τ) (main (F := F))) (s₀ m ρ) (Pipeline.FramePost cfgs (dats m) 0 (V m)) :=
  (θ_run defs _ _).mono (fun _ h => h.1) (run_main_quiescent m ρ)

/-- The arguments stand after the run, and every semaphore counter is back at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Mix

end
-- ==== Proof.Mix.GlaMath.lean ====
/- Gated linear attention over the chunks of a sequence, as plain functions of the argument arrays: what a chunk's scores,
   rows and next state are, the states in order, and the whole result. -/
module

public import Idealize.ShloMosaic.Lib.Pointwise

@[expose] public section

noncomputable section

namespace Cert.Gla

open Idealize.ShloMosaic

/-- An array of extended reals. -/
abbrev Arr (a b : ℕ) : Type := (⟨2, ![a, b]⟩ : Shape).Idx → EReal

/-! ## One chunk, from its queries, keys, cumulative gates, values and the state before it -/

section Chunk

variable (q k b : Fin 64 → Fin 128 → EReal) (v : Fin 64 → Fin 256 → EReal) (s : Fin 128 → Fin 256 → EReal)

/-- The scores inside a chunk, the gates taken relative to row 32. -/
def score (c x : Fin 64) : EReal :=
  if x.val ≤ c.val then
    ∑ d : Fin 128, q c d * Ideal.exp (b c d - b 32 d) * (k x d * Ideal.exp (-(b x d - b 32 d)))
  else
    ∑ d : Fin 128, q c d * Ideal.exp (-(b c d - b 32 d)) * (k x d * Ideal.exp (b x d - b 32 d))

/-- The rows before the head norm. -/
def pre (c : Fin 64) (e : Fin 256) : EReal :=
  ∑ x : Fin 64, score q k b c x * v x e + ∑ d : Fin 128, q c d * Ideal.exp (b c d) * s d e

/-- The state after the chunk. -/
def next (d : Fin 128) (e : Fin 256) : EReal :=
  s d e * Ideal.exp (b 63 d) + ∑ x : Fin 64, k x d * Ideal.exp (b 63 d - b x d) * v x e

end Chunk

/-- The head norm of a row, times the gain, times the gate. -/
def fin (o : Fin 256 → EReal) (g z : EReal) (e : Fin 256) : EReal :=
  o e * Ideal.rsqrt (Ideal.div (∑ x : Fin 256, o x * o x) (Ideal.ofBits .f32 0x43800000#32) + Ideal.ofBits .f32 0x3727C5AC#32) * g
    * Ideal.div z (1 + Ideal.exp (-z))

/-! ## The sequences -/

/-- The array row of row `c` of chunk `n` of sequence `b`. -/
def row (b : Fin 4) (n : Fin 128) (c : Fin 64) : Fin 32768 := ⟨b.val * 8192 + (n.val * 64 + c.val), by omega⟩

/-- A number as a chunk. -/
def chunk (n : ℕ) : Fin 128 := ⟨n % 128, Nat.mod_lt _ (by decide)⟩

variable (A : Arr 32768 7168) (B : Arr 32768 512)

/-- The queries, keys, values and cumulative gates of a head in a chunk. -/
def qAt (b h : Fin 4) (n : Fin 128) (c : Fin 64) (d : Fin 128) : EReal := A (ix2 (row b n c) ⟨4096 + (h.val * 128 + d.val), by omega⟩)
def kAt (b h : Fin 4) (n : Fin 128) (c : Fin 64) (d : Fin 128) : EReal := A (ix2 (row b n c) ⟨4608 + (h.val * 128 + d.val), by omega⟩)
def vAt (b h : Fin 4) (n : Fin 128) (c : Fin 64) (e : Fin 256) : EReal := A (ix2 (row b n c) ⟨5120 + (h.val * 256 + e.val), by omega⟩)
def bAt (b h : Fin 4) (n : Fin 128) (c : Fin 64) (d : Fin 128) : EReal := B (ix2 (row b n c) ⟨h.val * 128 + d.val, by omega⟩)

/-- The state before chunk `n` of a sequence: zero before the first. -/
def stateAt (b h : Fin 4) : ℕ → Fin 128 → Fin 256 → EReal
  | 0 => fun _ _ => 0
  | n + 1 => next (kAt A b h (chunk n)) (bAt B b h (chunk n)) (vAt A b h (chunk n)) (stateAt b h n)

/-- The rows of a chunk before the head norm. -/
def preAt (b h : Fin 4) (n : Fin 128) (c : Fin 64) (e : Fin 256) : EReal :=
  pre (qAt A b h n) (kAt A b h n) (bAt B b h n) (vAt A b h n) (stateAt A B b h n.val) c e

/-- The sequence, the chunk and the place in the chunk of an array row; the head and the place in the head of a column. -/
def seqOf (r : Fin 32768) : Fin 4 := ⟨r.val / 8192, by omega⟩
def chunkOf (r : Fin 32768) : Fin 128 := ⟨r.val % 8192 / 64, by omega⟩
def inChunk (r : Fin 32768) : Fin 64 := ⟨r.val % 64, by omega⟩
def headOf (j : Fin 1024) : Fin 4 := ⟨j.val / 256, by omega⟩
def inHead (j : Fin 1024) : Fin 256 := ⟨j.val % 256, by omega⟩

/-- The whole result. -/
def G (g : (⟨1, ![1024]⟩ : Shape).Idx → EReal) : Arr 32768 1024 := fun y =>
  fin (preAt A B (seqOf (y 0)) (headOf (y 1)) (chunkOf (y 0)) (inChunk (y 0))) (g (ix1 (y 1)))
    (A (ix2 (y 0) ⟨6144 + (y 1 : Fin 1024).val, by have h : (y 1 : Fin 1024).val < 1024 := (y 1).isLt; omega⟩)) (inHead (y 1))

theorem G_apply (g : (⟨1, ![1024]⟩ : Shape).Idx → EReal) (r : Fin 32768) (j : Fin 1024) :
    G A B g (ix2 r j) = fin (preAt A B (seqOf r) (headOf j) (chunkOf r) (inChunk r)) (g (ix1 j))
      (A (ix2 r ⟨6144 + j.val, by omega⟩)) (inHead j) := rfl

end Cert.Gla

end
-- ==== Proof.Mix.GlaKernel.lean ====
/- The kernel's gated-linear-attention result: the block a grid point leaves, and so the whole array, as the function of the
   argument arrays that Proof/Mix/GlaMath.lean states. -/
module

public import proofs.«01_k».proof.Proof.Mix.Run
public import proofs.«01_k».proof.Proof.Mix.GlaMath

@[expose] public section

set_option maxRecDepth 16384

noncomputable section

namespace Cert.KernelIdeal.Mix

open Cert.KernelIdeal Cert.KernelIdeal.Gen
open Idealize.ShloMosaic Idealize.ShloMosaic.TcCoe Idealize.SL.Sem
open Idealize.ShloMosaic.Pipeline (Dat Cfg Window)

/-! ## One chunk -/

theorem causal_bit : ∀ c x : Fin 64, IntOp.cmpi CmpIPredicate.sge (BitVec.ofNat 32 c.val) (BitVec.ofNat 32 x.val)
    = if x.val ≤ c.val then 1#1 else 0#1 := by decide +kernel

section Chunk

variable (b : FVec Ideal S64x128 .f32) (q k : FVec Ideal S64x128 .bf16) (v : FVec Ideal S64x256 .bf16) (s : FVec Ideal S256x128 .f32)

theorem score_eq (c x : Fin 64) : glaScore (F := Ideal) causal b q k (ix2 c x)
    = Gla.score (fun c d => q (ix2 c d)) (fun c d => k (ix2 c d)) (fun c d => b (ix2 c d)) c x := by
  pointwise [glaScore, glaNeg, glaRel, causal, Gla.score]
  rw [causal_bit]
  simp only [zero_sub]
  by_cases h : x.val ≤ c.val
  · rw [if_pos h, if_pos h]; rfl
  · rw [if_neg h, if_neg h]; rfl

theorem pre_eq (c : Fin 64) (e : Fin 256) : glaPre (F := Ideal) causal b q k v s (ix2 c e)
    = Gla.pre (fun c d => q (ix2 c d)) (fun c d => k (ix2 c d)) (fun c d => b (ix2 c d)) (fun c e => v (ix2 c e))
      (fun d e => s (ix2 e d)) c e := by
  simp only [Gla.pre, ← score_eq]
  pointwise [glaPre]

theorem state_eq (e : Fin 256) (d : Fin 128) : glaState (F := Ideal) b k v s (ix2 e d)
    = Gla.next (fun c d => k (ix2 c d)) (fun c d => b (ix2 c d)) (fun c e => v (ix2 c e)) (fun d e => s (ix2 e d)) d e := by
  pointwise [glaState, glaLast, Gla.next]
  exact congrArg (_ + ·) (Finset.sum_congr rfl fun x _ => mul_comm _ _)

end Chunk

theorem out_eq (o : FVec Ideal S64x256 .f32) (g : FVec Ideal S1x256 .f32) (z : FVec Ideal S64x256 .bf16) (c : Fin 64) (e : Fin 256) :
    glaOut (F := Ideal) o g z (ix2 c e) = Gla.fin (fun e => o (ix2 c e)) (g (ix2 0 e)) (z (ix2 c e)) e := by
  pointwise [glaOut, glaScale, glaGate, Gla.fin]
  simp only [zero_sub]

theorem zeroG_apply (e : Fin 256) (d : Fin 128) : (zeroG (F := Ideal) : S256x128.Idx → EReal) (ix2 e d) = 0 := by
  pointwise [zeroG]

/-! ## The blocks of the input windows -/

variable (m : (ℓ : Loc nD τ sig) → Buf (Elt Ideal) ℓ) (ρ : Dev nD → PrngReg)

theorem idx_facts : ∀ t : Fin cfg0.N, (win0_4.index t 0 = t.val / 8 * 2 + t.val % 2 ∧ win0_4.index t 1 = 32 + t.val / 2 % 4)
    ∧ (win0_5.index t 0 = t.val / 8 * 2 + t.val % 2 ∧ win0_5.index t 1 = 36 + t.val / 2 % 4)
    ∧ (win0_6.index t 0 = t.val / 8 * 2 + t.val % 2 ∧ win0_6.index t 1 = 20 + t.val / 2 % 4)
    ∧ (win0_7.index t 0 = t.val / 8 * 2 + t.val % 2 ∧ win0_7.index t 1 = 24 + t.val / 2 % 4)
    ∧ (win0_8.index t 0 = t.val / 8 * 2 + t.val % 2 ∧ win0_8.index t 1 = t.val / 2 % 4)
    ∧ (win0_14.index t 0 = 0 ∧ win0_14.index t 1 = t.val / 2 % 4)
    ∧ (win0_16.index t 0 = t.val / 8 * 2 + t.val % 2 ∧ win0_16.index t 1 = t.val / 2 % 4) :=
  (by decide +kernel : ∀ t : Fin grid0.N, _)

/-- The sequence and the head of a point, and the array row of a row of its blocks. -/
def seqAt (t : Fin cfg0.N) : Fin 4 := ⟨t.val / 8, by have h : t.val < 32 := t.isLt; omega⟩
def headAt (t : Fin cfg0.N) : Fin 4 := ⟨t.val / 2 % 4, by omega⟩
def rowAt (t : Fin cfg0.N) (i : Fin 4096) : Fin 32768 :=
  ⟨t.val / 8 * 8192 + (t.val % 2 * 4096 + i.val), by have h : t.val < 32 := t.isLt; omega⟩

theorem read4 (c : Dev nD) (W : (b : Ref sig .tc) → Buf (Elt Ideal) ((c : Thread nD τ).loc b)) (t : Fin cfg0.N) (i : Fin 4096) (l : Fin 128) :
    ((cfg0.win 4).blk t).view.read (Elt Ideal) (W (Pipeline.arrRef spec0 4)) (ix2 i l)
      = W main_arg0 (ix2 (rowAt t i) (⟨4096 + ((headAt t).val * 128 + l.val), by omega⟩ : Fin 7168)) := by
  have e := (idx_facts t).1
  refine congrArg (W main_arg0) (funext fun a => Fin.ext ?_)
  match a with
  | ⟨0, _⟩ => show win0_4.index t 0 * 4096 + 1 * i.val = t.val / 8 * 8192 + (t.val % 2 * 4096 + i.val); omega
  | ⟨1, _⟩ => show win0_4.index t 1 * 128 + 1 * l.val = 4096 + (t.val / 2 % 4 * 128 + l.val); omega

theorem blk4 (c : Dev nD) (t : Fin cfg0.N) (i : Fin 4096) (l : Fin 128) : iblk m c 4 t (ix2 i l)
    = m ((c : Thread nD τ).loc main_arg0) (ix2 (rowAt t i) (⟨4096 + ((headAt t).val * 128 + l.val), by omega⟩ : Fin 7168)) :=
  (read4 c (V m c) t i l).trans (congrFun (V_main_arg0 m c) _)

theorem read5 (c : Dev nD) (W : (b : Ref sig .tc) → Buf (Elt Ideal) ((c : Thread nD τ).loc b)) (t : Fin cfg0.N) (i : Fin 4096) (l : Fin 128) :
    ((cfg0.win 5).blk t).view.read (Elt Ideal) (W (Pipeline.arrRef spec0 5)) (ix2 i l)
      = W main_arg0 (ix2 (rowAt t i) (⟨4608 + ((headAt t).val * 128 + l.val), by omega⟩ : Fin 7168)) := by
  have e := (idx_facts t).2.1
  refine congrArg (W main_arg0) (funext fun a => Fin.ext ?_)
  match a with
  | ⟨0, _⟩ => show win0_5.index t 0 * 4096 + 1 * i.val = t.val / 8 * 8192 + (t.val % 2 * 4096 + i.val); omega
  | ⟨1, _⟩ => show win0_5.index t 1 * 128 + 1 * l.val = 4608 + (t.val / 2 % 4 * 128 + l.val); omega

theorem blk5 (c : Dev nD) (t : Fin cfg0.N) (i : Fin 4096) (l : Fin 128) : iblk m c 5 t (ix2 i l)
    = m ((c : Thread nD τ).loc main_arg0) (ix2 (rowAt t i) (⟨4608 + ((headAt t).val * 128 + l.val), by omega⟩ : Fin 7168)) :=
  (read5 c (V m c) t i l).trans (congrFun (V_main_arg0 m c) _)

theorem read6 (c : Dev nD) (W : (b : Ref sig .tc) → Buf (Elt Ideal) ((c : Thread nD τ).loc b)) (t : Fin cfg0.N) (i : Fin 4096) (l : Fin 256) :
    ((cfg0.win 6).blk t).view.read (Elt Ideal) (W (Pipeline.arrRef spec0 6)) (ix2 i l)
      = W main_arg0 (ix2 (rowAt t i) (⟨5120 + ((headAt t).val * 256 + l.val), by omega⟩ : Fin 7168)) := by
  have e := (idx_facts t).2.2.1
  refine congrArg (W main_arg0) (funext fun a => Fin.ext ?_)
  match a with
  | ⟨0, _⟩ => show win0_6.index t 0 * 4096 + 1 * i.val = t.val / 8 * 8192 + (t.val % 2 * 4096 + i.val); omega
  | ⟨1, _⟩ => show win0_6.index t 1 * 256 + 1 * l.val = 5120 + (t.val / 2 % 4 * 256 + l.val); omega

theorem blk6 (c : Dev nD) (t : Fin cfg0.N) (i : Fin 4096) (l : Fin 256) : iblk m c 6 t (ix2 i l)
    = m ((c : Thread nD τ).loc main_arg0) (ix2 (rowAt t i) (⟨5120 + ((headAt t).val * 256 + l.val), by omega⟩ : Fin 7168)) :=
  (read6 c (V m c) t i l).trans (congrFun (V_main_arg0 m c) _)

/-- The column of a place in the point's head. -/
def colAt (t : Fin cfg0.N) (e : Fin 256) : Fin 1024 := ⟨t.val / 2 % 4 * 256 + e.val, by omega⟩

theorem read7 (c : Dev nD) (W : (b : Ref sig .tc) → Buf (Elt Ideal) ((c : Thread nD τ).loc b)) (t : Fin cfg0.N) (i : Fin 4096) (l : Fin 256) :
    ((cfg0.win 7).blk t).view.read (Elt Ideal) (W (Pipeline.arrRef spec0 7)) (ix2 i l)
      = W main_arg0 (ix2 (rowAt t i) (⟨6144 + (colAt t l).val, by omega⟩ : Fin 7168)) := by
  have e := (idx_facts t).2.2.2.1
  refine congrArg (W main_arg0) (funext fun a => Fin.ext ?_)
  match a with
  | ⟨0, _⟩ => show win0_7.index t 0 * 4096 + 1 * i.val = t.val / 8 * 8192 + (t.val % 2 * 4096 + i.val); omega
  | ⟨1, _⟩ => show win0_7.index t 1 * 256 + 1 * l.val = 6144 + (t.val / 2 % 4 * 256 + l.val); omega

theorem blk7 (c : Dev nD) (t : Fin cfg0.N) (i : Fin 4096) (l : Fin 256) : iblk m c 7 t (ix2 i l)
    = m ((c : Thread nD τ).loc main_arg0) (ix2 (rowAt t i) (⟨6144 + (colAt t l).val, by omega⟩ : Fin 7168)) :=
  (read7 c (V m c) t i l).trans (congrFun (V_main_arg0 m c) _)

theorem read8 (c : Dev nD) (W : (b : Ref sig .tc) → Buf (Elt Ideal) ((c : Thread nD τ).loc b)) (t : Fin cfg0.N) (i : Fin 4096) (l : Fin 128) :
    ((cfg0.win 8).blk t).view.read (Elt Ideal) (W (Pipeline.arrRef spec0 8)) (ix2 i l)
      = W main_arg1 (ix2 (rowAt t i) (⟨(headAt t).val * 128 + l.val, by omega⟩ : Fin 512)) := by
  have e := (idx_facts t).2.2.2.2.1
  refine congrArg (W main_arg1) (funext fun a => Fin.ext ?_)
  match a with
  | ⟨0, _⟩ => show win0_8.index t 0 * 4096 + 1 * i.val = t.val / 8 * 8192 + (t.val % 2 * 4096 + i.val); omega
  | ⟨1, _⟩ => show win0_8.index t 1 * 128 + 1 * l.val = t.val / 2 % 4 * 128 + l.val; omega

theorem blk8 (c : Dev nD) (t : Fin cfg0.N) (i : Fin 4096) (l : Fin 128) : iblk m c 8 t (ix2 i l)
    = m ((c : Thread nD τ).loc main_arg1) (ix2 (rowAt t i) (⟨(headAt t).val * 128 + l.val, by omega⟩ : Fin 512)) :=
  (read8 c (V m c) t i l).trans (congrFun (V_main_arg1 m c) _)

/-! ## The states -/

/-- Which half of its sequence a point is, in chunks. -/
def base (t : Fin cfg0.N) : ℕ := t.val % 2 * 64

theorem row_eq (t : Fin cfg0.N) (n : ℕ) (hn : n < 64) (x : Fin 64) (h : (64 * n + x.val) % 4096 < 4096) :
    rowAt t ⟨(64 * n + x.val) % 4096, h⟩ = Gla.row (seqAt t) (Gla.chunk (base t + n)) x := by
  refine Fin.ext ?_
  show t.val / 8 * 8192 + (t.val % 2 * 4096 + (64 * n + x.val) % 4096) = t.val / 8 * 8192 + ((t.val % 2 * 64 + n) % 128 * 64 + x.val)
  omega

theorem rows_q (c : Dev nD) (t : Fin cfg0.N) (n : ℕ) (hn : n < 64) (x : Fin 64) (d : Fin 128) :
    rows 64 (ins m c t).qg (64 * n) (ix2 x d)
      = Gla.qAt (m ((c : Thread nD τ).loc main_arg0)) (seqAt t) (headAt t) (Gla.chunk (base t + n)) x d := by
  rw [ins_qg]
  refine (blk4 m c t ⟨(64 * n + x.val) % 4096, Nat.mod_lt _ (by decide)⟩ d).trans ?_
  rw [row_eq t n hn x]
  rfl

theorem rows_k (c : Dev nD) (t : Fin cfg0.N) (n : ℕ) (hn : n < 64) (x : Fin 64) (d : Fin 128) :
    rows 64 (ins m c t).kg (64 * n) (ix2 x d)
      = Gla.kAt (m ((c : Thread nD τ).loc main_arg0)) (seqAt t) (headAt t) (Gla.chunk (base t + n)) x d := by
  rw [ins_kg]
  refine (blk5 m c t ⟨(64 * n + x.val) % 4096, Nat.mod_lt _ (by decide)⟩ d).trans ?_
  rw [row_eq t n hn x]
  rfl

theorem rows_v (c : Dev nD) (t : Fin cfg0.N) (n : ℕ) (hn : n < 64) (x : Fin 64) (e : Fin 256) :
    rows 64 (ins m c t).vg (64 * n) (ix2 x e)
      = Gla.vAt (m ((c : Thread nD τ).loc main_arg0)) (seqAt t) (headAt t) (Gla.chunk (base t + n)) x e := by
  rw [ins_vg]
  refine (blk6 m c t ⟨(64 * n + x.val) % 4096, Nat.mod_lt _ (by decide)⟩ e).trans ?_
  rw [row_eq t n hn x]
  rfl

theorem rows_b (c : Dev nD) (t : Fin cfg0.N) (n : ℕ) (hn : n < 64) (x : Fin 64) (d : Fin 128) :
    rows 64 (ins m c t).b (64 * n) (ix2 x d)
      = Gla.bAt (m ((c : Thread nD τ).loc main_arg1)) (seqAt t) (headAt t) (Gla.chunk (base t + n)) x d := by
  rw [ins_b]
  refine (blk8 m c t ⟨(64 * n + x.val) % 4096, Nat.mod_lt _ (by decide)⟩ d).trans ?_
  rw [row_eq t n hn x]
  rfl

theorem stG_eq (c : Dev nD) (t : Fin cfg0.N) (s : Vec Ideal S256x128 .f32)
    (hs : ∀ (e : Fin 256) (d : Fin 128), s (ix2 e d)
      = Gla.stateAt (m ((c : Thread nD τ).loc main_arg0)) (m ((c : Thread nD τ).loc main_arg1)) (seqAt t) (headAt t) (base t) d e) :
    ∀ n, n ≤ 64 → ∀ (e : Fin 256) (d : Fin 128), stG (ins m c t) s n (ix2 e d)
      = Gla.stateAt (m ((c : Thread nD τ).loc main_arg0)) (m ((c : Thread nD τ).loc main_arg1)) (seqAt t) (headAt t) (base t + n) d e
  | 0, _, e, d => hs e d
  | n + 1, hn, e, d => by
    have ih := stG_eq c t s hs n (by omega)
    show glaState (F := Ideal) (rows 64 (ins m c t).b (64 * n)) (rows 64 (ins m c t).kg (64 * n)) (rows 64 (ins m c t).vg (64 * n))
      (stG (ins m c t) s n) (ix2 e d) = _
    rw [state_eq]
    simp only [rows_k m c t n (by omega), rows_b m c t n (by omega), rows_v m c t n (by omega), ih]
    rfl

/-- The state a point starts from is the state before its first chunk. -/
theorem entG_eq (c : Dev nD) (t : Fin cfg0.N) (e : Fin 256) (d : Fin 128) : entG m c t (ix2 e d)
    = Gla.stateAt (m ((c : Thread nD τ).loc main_arg0)) (m ((c : Thread nD τ).loc main_arg1)) (seqAt t) (headAt t) (base t) d e := by
  unfold entG
  by_cases h : t.val % 2 = 0
  · rw [if_pos h, show base t = 0 by unfold base; omega]
    exact zeroG_apply e d
  · have hp : (prev t).val = t.val - 1 := rfl
    have h0 : base (prev t) = 0 := by show (t.val - 1) % 2 * 64 = 0; omega
    have h1 : seqAt (prev t) = seqAt t := Fin.ext (by show (t.val - 1) / 8 = t.val / 8; omega)
    have h2 : headAt (prev t) = headAt t := Fin.ext (by show (t.val - 1) / 2 % 4 = t.val / 2 % 4; omega)
    have h3 : base t = 64 := by show t.val % 2 * 64 = 64; omega
    rw [if_neg h]
    refine (stG_eq m c (prev t) zeroG (fun e d => by rw [h0]; exact zeroG_apply e d) 64 (Nat.le_refl 64) e d).trans ?_
    rw [h0, h1, h2, h3]

/-! ## The result -/

theorem blkG_eq (c : Dev nD) (t : Fin cfg0.N) (n : ℕ) (hn : n < 64) (x : Fin 64) (e : Fin 256) :
    blkG (ins m c t) (entG m c t) n (ix2 x e)
      = Gla.fin (Gla.preAt (m ((c : Thread nD τ).loc main_arg0)) (m ((c : Thread nD τ).loc main_arg1)) (seqAt t) (headAt t)
          (Gla.chunk (base t + n)) x) ((ins m c t).gg (ix2 0 e)) ((ins m c t).zg (ix2 ⟨(64 * n + x.val) % 4096, Nat.mod_lt _ (by decide)⟩ e)) e := by
  have hst := stG_eq m c t (entG m c t) (entG_eq m c t) n (by omega)
  have hc : (Gla.chunk (base t + n)).val = base t + n := Nat.mod_eq_of_lt (by unfold base; omega)
  unfold blkG
  rw [out_eq]
  have hg : (shapeCast S1x256 (ins m c t).gg shapeCasts_S1x256_S1x256 : S1x256.Idx → EReal) (ix2 0 e) = (ins m c t).gg (ix2 0 e) := by
    pointwise
  rw [hg]
  refine congrArg (fun o => Gla.fin o _ _ e) (funext fun e' => ?_)
  refine (pre_eq _ _ _ _ _ x e').trans ?_
  simp only [rows_k m c t n hn, rows_b m c t n hn, rows_v m c t n hn, rows_q m c t n hn, hst]
  rw [Gla.preAt, hc]

end Cert.KernelIdeal.Mix

end
-- ==== Proof.Mix.GlaRun.lean ====
/- The kernel's run with its gated-linear-attention array at the function of the arguments: the blocks the grid points leave,
   put together. -/
module

public import proofs.«01_k».proof.Proof.Mix.GlaKernel
public import Idealize.ShloMosaic.Lib.StableHlo.RunLoop

@[expose] public section

set_option maxRecDepth 16384

noncomputable section

namespace Cert.KernelIdeal.Mix

open Cert.KernelIdeal Cert.KernelIdeal.Gen
open Idealize.ShloMosaic Idealize.ShloMosaic.TcCoe Idealize.SL.Sem
open Idealize.ShloMosaic.Pipeline (Dat Cfg Window)

variable (m : (ℓ : Loc nD τ sig) → Buf (Elt Ideal) ℓ) (ρ : Dev nD → PrngReg)

/-! ## The gain and the gate of a point -/

set_option maxHeartbeats 4000000 in
theorem V_v60 (c : Dev nD) (j : Fin 1024) :
    (V m c main_v60 : S1x1024.Idx → EReal) (ix2 0 j) = m ((c : Thread nD τ).loc main_arg3) (ix1 j) := by
  rw [show V m c main_v60 = StableHlo.afterL [hostOps0, hostOps0_1, hostOps0_2, hostOps0_3, hostOps0_4, hostOps0_5, hostOps0_6, hostOps0_7, hostOps0_8]
    (fun b => m (c, b)) (Proc.devRef .tc main_v60) from congrFun (StableHlo.afterL_eq_after_flatten _ _).symm _]
  simp only [StableHlo.afterL_cons, StableHlo.afterL_nil]
  after_results
  pointwise

theorem read14 (c : Dev nD) (W : (b : Ref sig .tc) → Buf (Elt Ideal) ((c : Thread nD τ).loc b)) (t : Fin cfg0.N) (e : Fin 256) :
    ((cfg0.win 14).blk t).view.read (Elt Ideal) (W (Pipeline.arrRef spec0 14)) (ix2 0 e) = W main_v60 (ix2 0 (colAt t e)) := by
  have h := (idx_facts t).2.2.2.2.2.1
  refine congrArg (W main_v60) (funext fun a => Fin.ext ?_)
  match a with
  | ⟨0, _⟩ => show win0_14.index t 0 * 1 + 1 * 0 = 0; omega
  | ⟨1, _⟩ => show win0_14.index t 1 * 256 + 1 * e.val = t.val / 2 % 4 * 256 + e.val; omega

theorem gg_eq (c : Dev nD) (t : Fin cfg0.N) (e : Fin 256) :
    (ins m c t).gg (ix2 0 e) = m ((c : Thread nD τ).loc main_arg3) (ix1 (colAt t e)) := by
  rw [ins_gg]
  exact (read14 c (V m c) t e).trans (V_v60 m c _)

theorem zg_eq (c : Dev nD) (t : Fin cfg0.N) (i : Fin 4096) (e : Fin 256) :
    (ins m c t).zg (ix2 i e) = m ((c : Thread nD τ).loc main_arg0) (ix2 (rowAt t i) (⟨6144 + (colAt t e).val, by omega⟩ : Fin 7168)) := by
  rw [ins_zg]
  exact blk7 m c t i e

/-! ## What a point leaves is its block of the whole result -/

theorem outG_eq (c : Dev nD) (t : Fin cfg0.N) (i : Fin 4096) (e : Fin 256) : outG (ins m c t) (entG m c t) (ix2 i e)
    = Gla.G (m ((c : Thread nD τ).loc main_arg0)) (m ((c : Thread nD τ).loc main_arg1)) (m ((c : Thread nD τ).loc main_arg3))
        (ix2 (rowAt t i) (colAt t e)) := by
  refine (blkG_eq m c t (i.val / 64) (by omega) ⟨i.val % 64, Nat.mod_lt _ (by decide)⟩ e).trans ?_
  have hi : (⟨(64 * (i.val / 64) + i.val % 64) % 4096, Nat.mod_lt _ (by decide)⟩ : Fin 4096) = i :=
    Fin.ext (by show (64 * (i.val / 64) + i.val % 64) % 4096 = i.val; omega)
  have ht : t.val < 32 := t.isLt
  have h1 : seqAt t = Gla.seqOf (rowAt t i) :=
    Fin.ext (by show t.val / 8 = (t.val / 8 * 8192 + (t.val % 2 * 4096 + i.val)) / 8192; omega)
  have h2 : headAt t = Gla.headOf (colAt t e) :=
    Fin.ext (by show t.val / 2 % 4 = (t.val / 2 % 4 * 256 + e.val) / 256; omega)
  have h3 : Gla.chunk (base t + i.val / 64) = Gla.chunkOf (rowAt t i) :=
    Fin.ext (by show (t.val % 2 * 64 + i.val / 64) % 128 = (t.val / 8 * 8192 + (t.val % 2 * 4096 + i.val)) % 8192 / 64; omega)
  have h4 : (⟨i.val % 64, Nat.mod_lt _ (by decide)⟩ : Fin 64) = Gla.inChunk (rowAt t i) :=
    Fin.ext (by show i.val % 64 = (t.val / 8 * 8192 + (t.val % 2 * 4096 + i.val)) % 64; omega)
  have h5 : e = Gla.inHead (colAt t e) :=
    Fin.ext (by show e.val = (t.val / 2 % 4 * 256 + e.val) % 256; omega)
  rw [Gla.G_apply, ← h1, ← h2, ← h3, ← h4, ← h5, gg_eq, zg_eq, hi]

theorem emb16 (t : Fin cfg0.N) (i : Fin 4096) (e : Fin 256) :
    ((cfg0.win 16).blk t).view.emb (ix2 i e) = (ix2 (rowAt t i) (colAt t e) : S32768x1024.Idx) := by
  have h := (idx_facts t).2.2.2.2.2.2
  funext a
  refine Fin.ext ?_
  match a with
  | ⟨0, _⟩ => show win0_16.index t 0 * 4096 + 1 * i.val = t.val / 8 * 8192 + (t.val % 2 * 4096 + i.val); omega
  | ⟨1, _⟩ => show win0_16.index t 1 * 256 + 1 * e.val = t.val / 2 % 4 * 256 + e.val; omega

theorem flushed16_eq (c : Dev nD) (t : Fin cfg0.N) :
    (dats m 0 c).flushed 16 t = ((cfg0.win 16).blk t).view.read (Elt Ideal)
      (Gla.G (m ((c : Thread nD τ).loc main_arg0)) (m ((c : Thread nD τ).loc main_arg1)) (m ((c : Thread nD τ).loc main_arg3))) := by
  show (cfg0.win 16).cut (grid0.coords t) ((dats m 0 c).after 16 t) = _
  rw [after_16]
  refine funext fun y => ?_
  obtain ⟨i, e, rfl⟩ : ∃ (i : Fin 4096) (e : Fin 256), y = ix2 i e := ⟨y 0, y 1, eq_ix2 y⟩
  show outG (ins m c t) (entG m c t) (ix2 i e) = Gla.G _ _ _ (((cfg0.win 16).blk t).view.emb (ix2 i e))
  rw [emb16]
  exact outG_eq m c t i e

/-- The point whose block holds a place of the array. -/
def ptOf (r : Fin 32768) (j : Fin 1024) : Fin cfg0.N :=
  ⟨r.val / 8192 * 8 + (j.val / 256 * 2 + r.val % 8192 / 4096), by show _ < 32; omega⟩

/-- Every place of the result array is in some point's block. -/
theorem covered16 (i : S32768x1024.Idx) :
    ∃ t : Fin cfg0.N, (cfg0.win 16).flush t = true ∧ i ∈ ((cfg0.win 16).blk t).view.set := by
  obtain ⟨r, j, rfl⟩ : ∃ (r : Fin 32768) (j : Fin 1024), i = ix2 r j := ⟨i 0, i 1, eq_ix2 i⟩
  refine ⟨ptOf r j, flush0_16 _, ?_⟩
  have hv : (ptOf r j).val = r.val / 8192 * 8 + (j.val / 256 * 2 + r.val % 8192 / 4096) := rfl
  have he := emb16 (ptOf r j) ⟨r.val % 4096, Nat.mod_lt _ (by decide)⟩ ⟨j.val % 256, Nat.mod_lt _ (by decide)⟩
  have h1 : rowAt (ptOf r j) ⟨r.val % 4096, Nat.mod_lt _ (by decide)⟩ = r :=
    Fin.ext (by show (ptOf r j).val / 8 * 8192 + ((ptOf r j).val % 2 * 4096 + r.val % 4096) = r.val; omega)
  have h2 : colAt (ptOf r j) ⟨j.val % 256, Nat.mod_lt _ (by decide)⟩ = j :=
    Fin.ext (by show (ptOf r j).val / 2 % 4 * 256 + j.val % 256 = j.val; omega)
  rw [h1, h2] at he
  rw [← he]
  exact ((cfg0.win 16).blk (ptOf r j)).view.emb_mem_set _

/-- The kernel's run, with the gated result at its function of the arguments, and the arguments unchanged. -/
theorem run_gla : θ_run defs (onTc (τ := τ) (main (F := Ideal))) ⟨m, fun _ => 0, ρ⟩ fun r => ∀ c : Dev nD,
      r.2.mem ((c : Thread nD τ).loc main_v61_1)
        = Gla.G (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h.1 c).1 16).trans
      ((dats m 0 c).arrAt_eq_of_cover 16 _ (fun t _ => flushed16_eq m c t) covered16), h.2.1 c⟩)
    (θ_run_and (run_main m ρ) (frame m ρ))

end Cert.KernelIdeal.Mix

end
-- ==== Proof.Mix.GlaEntry.lean ====
/- The reference's gated part before its loop over the chunks: the arrays the loop reads, each at an index, as plain functions
   of the arguments. -/
module

public import proofs.«01_k».proof.Proof.Gen.ReferenceIdeal.Run
public import proofs.«01_k».proof.Proof.Mix.GlaMath
public import Idealize.ShloMosaic.Lib.Pointwise

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo

/-! ## The queries, keys, values and cumulative gates in chunks -/

section Chunks

variable (A : FVec Ideal S32768x7168 .bf16) (B : FVec Ideal S32768x512 .f32)

def q5 : FVec Ideal S4x4x128x64x128 .f32 :=
  transpose S4x4x128x64x128 [0, 3, 1, 2, 4] (shapeCast S4x128x64x4x128 (shapeCast S4x8192x4x128
    (extractStridedSlice S4x8192x512 ![0, 0, 4096] (shapeCast S4x8192x7168 (extf .f32 A bitsLt_bf16_f32) shapeCasts_S32768x7168_S4x8192x7168)
      slices_S4x8192x7168_S4x8192x512_0_0_4096) shapeCasts_S4x8192x512_S4x8192x4x128) shapeCasts_S4x8192x4x128_S4x128x64x4x128)
    transposes_S4x128x64x4x128_S4x4x128x64x128_0_3_1_2_4

def k5 : FVec Ideal S4x4x128x64x128 .f32 :=
  transpose S4x4x128x64x128 [0, 3, 1, 2, 4] (shapeCast S4x128x64x4x128 (shapeCast S4x8192x4x128
    (extractStridedSlice S4x8192x512 ![0, 0, 4608] (shapeCast S4x8192x7168 (extf .f32 A bitsLt_bf16_f32) shapeCasts_S32768x7168_S4x8192x7168)
      slices_S4x8192x7168_S4x8192x512_0_0_4608) shapeCasts_S4x8192x512_S4x8192x4x128) shapeCasts_S4x8192x4x128_S4x128x64x4x128)
    transposes_S4x128x64x4x128_S4x4x128x64x128_0_3_1_2_4

def v5 : FVec Ideal S4x4x128x64x256 .f32 :=
  transpose S4x4x128x64x256 [0, 3, 1, 2, 4] (shapeCast S4x128x64x4x256 (shapeCast S4x8192x4x256
    (extractStridedSlice S4x8192x1024 ![0, 0, 5120] (shapeCast S4x8192x7168 (extf .f32 A bitsLt_bf16_f32) shapeCasts_S32768x7168_S4x8192x7168)
      slices_S4x8192x7168_S4x8192x1024_0_0_5120) shapeCasts_S4x8192x1024_S4x8192x4x256) shapeCasts_S4x8192x4x256_S4x128x64x4x256)
    transposes_S4x128x64x4x256_S4x4x128x64x256_0_3_1_2_4

def b5 : FVec Ideal S4x4x128x64x128 .f32 :=
  transpose S4x4x128x64x128 [0, 3, 1, 2, 4] (shapeCast S4x128x64x4x128 (shapeCast S4x8192x4x128 B shapeCasts_S32768x512_S4x8192x4x128)
    shapeCasts_S4x8192x4x128_S4x128x64x4x128) transposes_S4x128x64x4x128_S4x4x128x64x128_0_3_1_2_4

theorem q5_apply (b h : Fin 4) (n : Fin 128) (c : Fin 64) (d : Fin 128) : q5 A (ix5 b h n c d) = Gla.qAt A b h n c d := by
  pointwise [q5]
  rfl

theorem k5_apply (b h : Fin 4) (n : Fin 128) (c : Fin 64) (d : Fin 128) : k5 A (ix5 b h n c d) = Gla.kAt A b h n c d := by
  pointwise [k5]
  rfl

theorem v5_apply (b h : Fin 4) (n : Fin 128) (c : Fin 64) (e : Fin 256) : v5 A (ix5 b h n c e) = Gla.vAt A b h n c e := by
  unfold Gla.vAt Gla.row
  pointwise [v5]

theorem b5_apply (b h : Fin 4) (n : Fin 128) (c : Fin 64) (d : Fin 128) : b5 B (ix5 b h n c d) = Gla.bAt B b h n c d := by
  pointwise [b5]
  exact congrArg B (congrArg₂ ix2 (Fin.ext (Nat.add_assoc ..)) rfl)

/-! ## What the loop reads of them -/

/-- The gates relative to row 32 of their chunk. -/
def rel5 : FVec Ideal S4x4x128x64x128 .f32 :=
  subf (b5 B) (broadcastInDim S4x4x128x64x128 ![0, 1, 2, 3, 4] bcast_S4x4x128x1x128_S4x4x128x64x128_0_1_2_3_4
    (extractStridedSlice S4x4x128x1x128 ![0, 0, 0, 32, 0] (b5 B) slices_S4x4x128x64x128_S4x4x128x1x128_0_0_0_32_0))

/-- Which row of a chunk may look at which by the first of the two scores. -/
def mask5 : IVec S64x64 1 :=
  cmpi .sge (broadcastInDim S64x64 ![0, 1] bcast_S64x1_S64x64_0_1 (broadcastInDim S64x1 ![0] bcast_S64_S64x1_0 (iotaInDim S64 32 0)))
    (broadcastInDim S64x64 ![0, 1] bcast_S1x64_S64x64_0_1 (broadcastInDim S1x64 ![1] bcast_S64_S1x64_1 (iotaInDim S64 32 0)))

def score5 : FVec Ideal S4x4x128x64x64 .f32 :=
  select (broadcastInDim S4x4x128x64x64 ![3, 4] bcast_S64x64_S4x4x128x64x64_3_4 mask5)
    (Host.dotGeneral dot_S4x4x128x64x128_S4x4x128x64x128_S4x4x128x64x64_4_4_3_3_012_012 none
      (mulf (q5 A) (Host.exp (rel5 B))) (mulf (k5 A) (Host.exp (Host.negf (rel5 B)))))
    (Host.dotGeneral dot_S4x4x128x64x128_S4x4x128x64x128_S4x4x128x64x64_4_4_3_3_012_012 none
      (mulf (q5 A) (Host.exp (Host.negf (rel5 B)))) (mulf (k5 A) (Host.exp (rel5 B))))

def intra : FVec Ideal S128x4x4x64x256 .f32 :=
  transpose S128x4x4x64x256 [2, 0, 1, 3, 4] (Host.dotGeneral dot_S4x4x128x64x64_S4x4x128x64x256_S4x4x128x64x256_4_3_3_4_012_012 none
    (score5 A B) (v5 A)) transposes_S4x4x128x64x256_S128x4x4x64x256_2_0_1_3_4

def qdec : FVec Ideal S128x4x4x64x128 .f32 :=
  transpose S128x4x4x64x128 [2, 0, 1, 3, 4] (mulf (q5 A) (Host.exp (b5 B))) transposes_S4x4x128x64x128_S128x4x4x64x128_2_0_1_3_4

def kdec : FVec Ideal S128x4x4x64x128 .f32 :=
  transpose S128x4x4x64x128 [2, 0, 1, 3, 4] (mulf (k5 A) (Host.exp (subf
    (broadcastInDim S4x4x128x64x128 ![0, 1, 2, 3, 4] bcast_S4x4x128x1x128_S4x4x128x64x128_0_1_2_3_4
      (extractStridedSlice S4x4x128x1x128 ![0, 0, 0, 63, 0] (b5 B) slices_S4x4x128x64x128_S4x4x128x1x128_0_0_0_63_0)) (b5 B))))
    transposes_S4x4x128x64x128_S128x4x4x64x128_2_0_1_3_4

def vals : FVec Ideal S128x4x4x64x256 .f32 :=
  transpose S128x4x4x64x256 [2, 0, 1, 3, 4] (v5 A) transposes_S4x4x128x64x256_S128x4x4x64x256_2_0_1_3_4

def sdec : FVec Ideal S128x4x4x128 .f32 :=
  transpose S128x4x4x128 [2, 0, 1, 3] (Host.exp (shapeCast S4x4x128x128
    (extractStridedSlice S4x4x128x1x128 ![0, 0, 0, 63, 0] (b5 B) slices_S4x4x128x64x128_S4x4x128x1x128_0_0_0_63_0)
    shapeCasts_S4x4x128x1x128_S4x4x128x128)) transposes_S4x4x128x128_S128x4x4x128_2_0_1_3

theorem rel5_apply (b h : Fin 4) (n : Fin 128) (c : Fin 64) (d : Fin 128) :
    rel5 B (ix5 b h n c d) = Gla.bAt B b h n c d - Gla.bAt B b h n 32 d := by
  rw [← b5_apply, ← b5_apply]
  pointwise [rel5]

theorem mask5_bit : ∀ c x : Fin 64, IntOp.cmpi CmpIPredicate.sge (BitVec.ofNat 32 c.val) (BitVec.ofNat 32 x.val)
    = if x.val ≤ c.val then 1#1 else 0#1 := by decide +kernel

theorem mask5_apply (c x : Fin 64) : mask5 (ix2 c x) = if x.val ≤ c.val then 1#1 else 0#1 := by
  rw [← mask5_bit]
  pointwise [mask5]

theorem score5_apply (b h : Fin 4) (n : Fin 128) (c x : Fin 64) :
    score5 A B (ix5 b h n c x) = Gla.score (Gla.qAt A b h n) (Gla.kAt A b h n) (Gla.bAt B b h n) c x := by
  pointwise [score5]
  rw [mask5_apply]
  simp only [q5_apply, k5_apply, rel5_apply, Gla.score, zero_sub]
  by_cases h : x.val ≤ c.val
  · rw [if_pos h, if_pos h]; rfl
  · rw [if_neg h, if_neg h]; rfl

theorem intra_apply (b h : Fin 4) (n : Fin 128) (c : Fin 64) (e : Fin 256) : intra A B (ix5 n b h c e)
    = ∑ x : Fin 64, Gla.score (Gla.qAt A b h n) (Gla.kAt A b h n) (Gla.bAt B b h n) c x * Gla.vAt A b h n x e := by
  simp only [← score5_apply, ← v5_apply]
  pointwise [intra]

theorem qdec_apply (b h : Fin 4) (n : Fin 128) (c : Fin 64) (d : Fin 128) :
    qdec A B (ix5 n b h c d) = Gla.qAt A b h n c d * Ideal.exp (Gla.bAt B b h n c d) := by
  simp only [← q5_apply, ← b5_apply]
  pointwise [qdec]

theorem kdec_apply (b h : Fin 4) (n : Fin 128) (c : Fin 64) (d : Fin 128) :
    kdec A B (ix5 n b h c d) = Gla.kAt A b h n c d * Ideal.exp (Gla.bAt B b h n 63 d - Gla.bAt B b h n c d) := by
  simp only [← k5_apply, ← b5_apply]
  pointwise [kdec]

theorem vals_apply (b h : Fin 4) (n : Fin 128) (c : Fin 64) (e : Fin 256) : vals A (ix5 n b h c e) = Gla.vAt A b h n c e := by
  rw [← v5_apply]
  pointwise [vals]

theorem sdec_apply (b h : Fin 4) (n d : Fin 128) : sdec B (ix4 n b h d) = Ideal.exp (Gla.bAt B b h n 63 d) := by
  rw [← b5_apply]
  pointwise [sdec]

end Chunks

/-! ## The loop's buffers at its entry -/

variable (m : (ℓ : Loc nD τ sig) → Buf (Elt Ideal) ℓ)

set_option maxHeartbeats 4000000 in
theorem entry_5 (c : Dev nD) : entryContents preI m c (Proc.devRef .tc main_v125_5)
    = intra (m ((c.tc : Thread nD τ).loc main_arg0)) (m ((c.tc : Thread nD τ).loc main_arg1)) := by
  simp only [entryContents, afterL_cons, afterL_nil]
  after_results
  rfl

set_option maxHeartbeats 4000000 in
theorem entry_6 (c : Dev nD) : entryContents preI m c (Proc.devRef .tc main_v125_6)
    = qdec (m ((c.tc : Thread nD τ).loc main_arg0)) (m ((c.tc : Thread nD τ).loc main_arg1)) := by
  simp only [entryContents, afterL_cons, afterL_nil]
  after_results
  rfl

set_option maxHeartbeats 4000000 in
theorem entry_7 (c : Dev nD) : entryContents preI m c (Proc.devRef .tc main_v125_7)
    = kdec (m ((c.tc : Thread nD τ).loc main_arg0)) (m ((c.tc : Thread nD τ).loc main_arg1)) := by
  simp only [entryContents, afterL_cons, afterL_nil]
  after_results
  rfl

set_option maxHeartbeats 4000000 in
theorem entry_8 (c : Dev nD) : entryContents preI m c (Proc.devRef .tc main_v125_8)
    = vals (m ((c.tc : Thread nD τ).loc main_arg0)) := by
  simp only [entryContents, afterL_cons, afterL_nil]
  after_results
  rfl

set_option maxHeartbeats 4000000 in
theorem entry_9 (c : Dev nD) : entryContents preI m c (Proc.devRef .tc main_v125_9)
    = sdec (m ((c.tc : Thread nD τ).loc main_arg1)) := by
  simp only [entryContents, afterL_cons, afterL_nil]
  after_results
  rfl

/-- The state is zero before the first chunk. -/
theorem entry_12 (c : Dev nD) (b h : Fin 4) (d : Fin 128) (e : Fin 256) :
    (entryContents preI m c (Proc.devRef .tc main_v125_12) : S4x4x128x256.Idx → EReal) (ix4 b h d e) = (0 : EReal) := by
  simp only [entryContents, afterL_cons, afterL_nil]
  after_results
  simp only [id]
  pointwise

end Cert.ReferenceIdeal.Value

end
-- ==== Proof.Up.Terms.lean ====
/- The up projection's point: what a grid point leaves in its result block and in the rows of activations it keeps for the
   points of the same row block, as terms over the blocks it was given. -/
module

public import proofs.«01_k».proof.Proof.Gen.Kernel3Ideal.Value
public import Idealize.ShloMosaic.Lib.Pipeline.ValueKit.Tiles

@[expose] public section

set_option maxRecDepth 16384

noncomputable section

namespace Cert.Up

open Cert.Kernel3Ideal Cert.Kernel3Ideal.Gen
open Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- A load of the whole of a buffer reads what its stores left. -/
theorem readCov_whole {sig : RefSig} {κ : Kind} {sp : Space} {S : Shape} {e : EltTy} (v : View sig κ sp S e)
    (L : List (View.Piece (Elt F) S e)) {off : Fin S.rank → Nat} (h : off = fun _ => 0) (inb : ∀ a, off a + S.size a ≤ S.size a) :
    v.readCov L (Rect.unit off S.size inb).toLoadRect = View.canon L := by
  rw [View.readCov_eq_canon']
  subst h
  exact View.ld_unit_zero rfl inb (View.canon L)

/-- Row `k` of the three rows of a convolution's weights. -/
abbrev tap0 (x : Vec F S3x512 .f32) : Vec F S1x512 .f32 := View.ld x (Rect.unit (s := S3x512) ![0, 0] S1x512.size inb_S3x512_S1x512_0_0)
abbrev tap1 (x : Vec F S3x512 .f32) : Vec F S1x512 .f32 := View.ld x (Rect.unit (s := S3x512) ![1, 0] S1x512.size inb_S3x512_S1x512_1_0)
abbrev tap2 (x : Vec F S3x512 .f32) : Vec F S1x512 .f32 := View.ld x (Rect.unit (s := S3x512) ![2, 0] S1x512.size inb_S3x512_S1x512_2_0)

/-- The result block over the kept rows `L`: both halves of the projection, each convolved, gated. -/
def outOf (L : Vec F S1040x2048 .bf16) (x2 : Vec F S2048x512 .bf16) (x3 : Vec F S2048x512 .bf16) (x4 : Vec F S3x512 .f32)
    (x5 : Vec F S3x512 .f32) (x6 : Vec F S1x512 .f32) (x7 : Vec F S1x512 .f32) : Vec F S1024x512 .bf16 :=
  k0_pay1 (k0_pay6 (k0_pay4 L x3) (tap0 x5) (tap1 x5) (tap2 x5)) x7 (k0_pay5 L x2) (tap0 x4) (tap1 x4) (tap2 x4) x6

/-- The kept rows: the sixteen rows before the block, times zero at a sequence's start, then the block's own. -/
def lhsOf (i : grid0.Coords) (x0 : Vec F S1024x2048 .bf16) (x1 : Vec F S16x2048 .bf16) : Vec F S1040x2048 .bf16 :=
  View.canon ([⟨Rect.unit (s := S1040x2048) ![16, 0] S1024x2048.size inb_S1040x2048_S1024x2048_16_0, k0_pay3 x0⟩,
    ⟨Rect.unit (s := S1040x2048) ![0, 0] S16x2048.size inb_S1040x2048_S16x2048_0_0, k0_pay2 i x1⟩] : List (View.Piece (Elt F) S1040x2048 .bf16))

set_option maxHeartbeats 1000000 in
theorem out_B (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1040x2048 .bf16) (harg11 : arg11.IsWhole) (arg12 : Memref sig .tc .vmem S1040x512 .f32) (harg12 : arg12.IsWhole) (arg13 : Memref sig .tc .vmem S1040x512 .f32) (harg13 : arg13.IsWhole) (hc0 : ¬cond0_0 i)
    (x0 : Vec F S1024x2048 .bf16) (x1 : Vec F S16x2048 .bf16) (x2 : Vec F S2048x512 .bf16) (x3 : Vec F S2048x512 .bf16) (x4 : Vec F S3x512 .f32) (x5 : Vec F S3x512 .f32) (x6 : Vec F S1x512 .f32) (x7 : Vec F S1x512 .f32) (xs0 : Vec F S1040x2048 .bf16) :
    out0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0 = outOf xs0 x2 x3 x4 x5 x6 x7 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 xs0)]
  unfold kernelRun0_B
  dsimp only
  sl_unfold_words
  rw [View.canon_unit_zero (S := S1024x512) hz]
  simp only [View.readAt_eq_ld, readCov_whole (S := S1040x512) _ _ hz, readCov_whole (S := S1040x2048) _ _ hz, View.canon_unit_zero (S := S1040x512) hz, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1040x512) hz, View.ld_unit_zero (S := S1040x2048) hz, View.ld_unit_zero (S := S2048x512) hz,
    View.ld_unit_zero (S := S1x512) hz]
  rfl

set_option maxHeartbeats 1000000 in
theorem sout_A (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1040x2048 .bf16) (harg11 : arg11.IsWhole) (arg12 : Memref sig .tc .vmem S1040x512 .f32) (harg12 : arg12.IsWhole) (arg13 : Memref sig .tc .vmem S1040x512 .f32) (harg13 : arg13.IsWhole) (hc0 : cond0_0 i)
    (x0 : Vec F S1024x2048 .bf16) (x1 : Vec F S16x2048 .bf16) (x2 : Vec F S2048x512 .bf16) (x3 : Vec F S2048x512 .bf16) (x4 : Vec F S3x512 .f32) (x5 : Vec F S3x512 .f32) (x6 : Vec F S1x512 .f32) (x7 : Vec F S1x512 .f32) :
    sout0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = lhsOf i x0 x1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  simp only [View.readAt_eq_ld, harg2.read_unread, harg3.read_unread, View.ld_unit_zero (S := S1024x2048) hz,
    View.ld_unit_zero (S := S16x2048) hz]
  rfl

set_option maxHeartbeats 1000000 in
theorem out_A (c : Dev nD) (i : grid0.Coords) (arg2 : Memref sig .tc .vmem S1024x2048 .bf16) (harg2 : arg2.IsWhole) (arg3 : Memref sig .tc .vmem S16x2048 .bf16) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S3x512 .f32) (harg6 : arg6.IsWhole) (arg7 : Memref sig .tc .vmem S3x512 .f32) (harg7 : arg7.IsWhole) (arg8 : Memref sig .tc .vmem S1x512 .f32) (harg8 : arg8.IsWhole) (arg9 : Memref sig .tc .vmem S1x512 .f32) (harg9 : arg9.IsWhole) (arg10 : Memref sig .tc .vmem S1024x512 .bf16) (harg10 : arg10.IsWhole) (arg11 : Memref sig .tc .vmem S1040x2048 .bf16) (harg11 : arg11.IsWhole) (arg12 : Memref sig .tc .vmem S1040x512 .f32) (harg12 : arg12.IsWhole) (arg13 : Memref sig .tc .vmem S1040x512 .f32) (harg13 : arg13.IsWhole) (hc0 : cond0_0 i)
    (x0 : Vec F S1024x2048 .bf16) (x1 : Vec F S16x2048 .bf16) (x2 : Vec F S2048x512 .bf16) (x3 : Vec F S2048x512 .bf16) (x4 : Vec F S3x512 .f32) (x5 : Vec F S3x512 .f32) (x6 : Vec F S1x512 .f32) (x7 : Vec F S1x512 .f32) :
    out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7 = outOf (lhsOf i x0 x1) x2 x3 x4 x5 x6 x7 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 x7)]
  unfold kernelRun0_A
  dsimp only
  sl_unfold_words
  rw [View.canon_unit_zero (S := S1024x512) hz]
  simp only [View.readAt_eq_ld, readCov_whole (S := S1040x512) _ _ hz, readCov_whole (S := S1040x2048) _ _ hz, View.canon_unit_zero (S := S1040x512) hz, harg2.read_unread, harg3.read_unread, harg4.read_unread, harg5.read_unread, harg6.read_unread, harg7.read_unread, harg8.read_unread, harg9.read_unread, harg10.read_unread, harg11.read_unread, harg12.read_unread, harg13.read_unread,
    View.ld_unit_zero (S := S1040x512) hz, View.ld_unit_zero (S := S1040x2048) hz, View.ld_unit_zero (S := S2048x512) hz,
    View.ld_unit_zero (S := S1x512) hz, View.ld_unit_zero (S := S1024x2048) hz, View.ld_unit_zero (S := S16x2048) hz]
  rfl

end Cert.Up

end
-- ==== Proof.Up.Math.lean ====
/- The up projection with its convolution and gate as a function of the argument arrays, and the kernel's block of it over
   the rows it keeps. -/
module

public import proofs.«01_k».proof.Proof.Up.Terms
public import Idealize.ShloMosaic.Lib.Pointwise
public import Idealize.ShloMosaic.Lib.KernelVsHost

@[expose] public section

set_option maxRecDepth 16384

noncomputable section

namespace Cert.Up

open Idealize.ShloMosaic Idealize.ShloMosaic.TcCoe Idealize.SL.Sem

/-! ## The mathematics -/

/-- A row of activations times a column of the weights. -/
def dotAt {R C : ℕ} (x : (⟨2, ![R, 2048]⟩ : Shape).Idx → EReal) (w : (⟨2, ![2048, C]⟩ : Shape).Idx → EReal)
    (i : Fin R) (j : Fin C) : EReal := ∑ l : Fin 2048, x (ix2 i l) * w (ix2 l j)

/-- The projection `k` rows before row `p`, zero before the start of `p`'s sequence. -/
def before (x : (⟨2, ![32768, 2048]⟩ : Shape).Idx → EReal) (w : (⟨2, ![2048, 11264]⟩ : Shape).Idx → EReal)
    (k : ℕ) (p : Fin 32768) (q : Fin 11264) : EReal :=
  if k ≤ p.val % 8192 then dotAt x w ⟨p.val - k, by omega⟩ q else 0

/-- Three taps and a bias. -/
def conv3 (c0 c1 c2 u0 u1 u2 b : EReal) : EReal := c2 * u2 + (c1 * u1 + c0 * u0) + b

/-- The convolution of the projection's column `q`, at row `p`. -/
def convAt (x : (⟨2, ![32768, 2048]⟩ : Shape).Idx → EReal) (w : (⟨2, ![2048, 11264]⟩ : Shape).Idx → EReal)
    (c : (⟨2, ![3, 11264]⟩ : Shape).Idx → EReal) (b : (⟨1, ![11264]⟩ : Shape).Idx → EReal) (p : Fin 32768) (q : Fin 11264) : EReal :=
  conv3 (c (ix2 0 q)) (c (ix2 1 q)) (c (ix2 2 q)) (before x w 2 p q) (before x w 1 p q) (before x w 0 p q) (b (ix1 q))

/-- The value gated: `silu g * v`. -/
def gated (g v : EReal) : EReal := Ideal.div g (1 + Ideal.exp (-g)) * v

/-- The result array. -/
def G (x : (⟨2, ![32768, 2048]⟩ : Shape).Idx → EReal) (w : (⟨2, ![2048, 11264]⟩ : Shape).Idx → EReal)
    (c : (⟨2, ![3, 11264]⟩ : Shape).Idx → EReal) (b : (⟨1, ![11264]⟩ : Shape).Idx → EReal) :
    (⟨2, ![32768, 5632]⟩ : Shape).Idx → EReal := fun i =>
  gated (convAt x w c b (i 0) ⟨5632 + (i 1).val, by have h : (i 1).val < 5632 := (i 1).isLt; omega⟩)
    (convAt x w c b (i 0) ⟨(i 1).val, by have h : (i 1).val < 5632 := (i 1).isLt; omega⟩)

theorem exp_nonneg (x : EReal) : 0 ≤ Ideal.exp x := by
  induction x with
  | bot => simp
  | top => simp
  | coe r => simp only [Ideal.exp_coe]; exact_mod_cast (Real.exp_pos r).le

/-- A quotient by `1 + e^x` is the product with its reciprocal. -/
theorem div_eq_mul (z x : EReal) : z * Ideal.div 1 (1 + Ideal.exp x) = Ideal.div z (1 + Ideal.exp x) := by
  have h : (1 + Ideal.exp x : EReal) ≠ 0 := by
    have h1 : (0 : EReal) < 1 := by norm_num
    exact (lt_of_lt_of_le h1 (le_add_of_nonneg_right (exp_nonneg x))).ne'
  rw [Ideal.div, Ideal.div, if_neg h, if_neg h, one_mul]

open Cert.Kernel3Ideal Cert.Kernel3Ideal.Gen

/-! ## The kernel's payloads -/

theorem pay4_apply (L : FVec Ideal S1040x2048 .bf16) (w : FVec Ideal S2048x512 .bf16) (s : Fin 1040) (j : Fin 512) :
    k0_pay4 (F := Ideal) L w (ix2 s j) = dotAt L w s j := by pointwise [k0_pay4, dotAt]

theorem pay5_apply (L : FVec Ideal S1040x2048 .bf16) (w : FVec Ideal S2048x512 .bf16) (s : Fin 1040) (j : Fin 512) :
    k0_pay5 (F := Ideal) L w (ix2 s j) = dotAt L w s j := by pointwise [k0_pay5, dotAt]

theorem pay6_apply (u : FVec Ideal S1040x512 .f32) (c0 c1 c2 : FVec Ideal S1x512 .f32) (s : Fin 1040) (j : Fin 512) (hs : 2 ≤ s.val) :
    k0_pay6 (F := Ideal) u c0 c1 c2 (ix2 s j) = c2 (ix2 0 j) * u (ix2 s j) + (c1 (ix2 0 j) * u (ix2 ⟨s.val - 1, by omega⟩ j)
      + c0 (ix2 0 j) * u (ix2 ⟨s.val - 2, by omega⟩ j)) := by
  pointwise [k0_pay6]
  have e1 : (s.val + 1040 - 1) % 1040 = s.val - 1 := by omega
  have e2 : (s.val - 1 + 1040 - 1) % 1040 = s.val - 2 := by omega
  simp only [e1, e2]

theorem pay1_apply (v29 : FVec Ideal S1040x512 .f32) (v30 : FVec Ideal S1x512 .f32) (u : FVec Ideal S1040x512 .f32)
    (c0 c1 c2 b : FVec Ideal S1x512 .f32) (r : Fin 1024) (j : Fin 512) :
    k0_pay1 (F := Ideal) v29 v30 u c0 c1 c2 b (ix2 r j)
      = gated (v29 (ix2 ⟨16 + r.val, by omega⟩ j) + v30 (ix2 0 j)) (k0_pay6 (F := Ideal) u c0 c1 c2 (ix2 ⟨16 + r.val, by omega⟩ j) + b (ix2 0 j)) := by
  pointwise [k0_pay1, k0_pay6, gated]
  rw [zero_sub]

/-- One word per row block: one inside a sequence, zero at its start. -/
theorem keep_bits : ∀ a : Fin 32, (let arg0 : BitVec 32 := BitVec.ofNat 32 a.val
      let v63 : BitVec 1 := Scalar.cmpi .eq 8#32 0#32
      let v64 : BitVec 32 := Scalar.select v63 1#32 8#32
      let v65 : BitVec 32 := Scalar.remsi arg0 v64
      let v66 : BitVec 1 := Scalar.cmpi .ne v65 0#32
      let v67 : BitVec 1 := Scalar.cmpi .slt v65 0#32
      let v68 : BitVec 1 := Scalar.cmpi .slt v64 0#32
      let v69 : BitVec 1 := Scalar.xori v67 v68
      let v70 : BitVec 1 := Scalar.andi v69 v66
      let v71 : BitVec 32 := Scalar.addi v65 v64
      let v72 : BitVec 32 := Scalar.select v70 v71 v65
      let v73 : BitVec 1 := Scalar.cmpi .ne v72 0#32
      (Scalar.extui v73 : BitVec 32)) = if a.val % 8 = 0 then 0#32 else 1#32 := by decide +kernel

theorem pay2_apply (i : grid0.Coords) (h : FVec Ideal S16x2048 .bf16) (s : Fin 16) (l : Fin 2048) :
    k0_pay2 (F := Ideal) i h (ix2 s l) = h (ix2 s l) * (if (i 0).val % 8 = 0 then 0 else 1) := by
  have hk := keep_bits ⟨(i 0).val, (i 0).isLt⟩
  dsimp only at hk
  unfold k0_pay2
  dsimp only
  rw [hk]
  split
  · pointwise
    simp
  · pointwise
    simp

theorem pay3_eq (x : Vec Ideal S1024x2048 .bf16) : k0_pay3 (F := Ideal) x = x := shapeCast_self ..

end Cert.Up

end
-- ==== Proof.Mix.GlaLoop.lean ====
/- The reference's loop over the chunks, its gated part: what a trip makes of the state and of the rows, and so what 128 trips
   make of them; then the head norm and the gate. -/
module

public import proofs.«01_k».proof.Proof.Mix.GlaEntry
public import proofs.«01_k».proof.Proof.Up.Math
public import Idealize.ShloMosaic.Lib.WordCmp

@[expose] public section

set_option maxRecDepth 16384

noncomputable section

namespace Cert.ReferenceIdeal.Value

open Cert.ReferenceIdeal Cert.ReferenceIdeal.Gen
open Idealize.ShloMosaic Idealize.ShloMosaic.TcCoe Idealize.ShloMosaic.Tactic
open Idealize.SL.Sem
open Idealize.ShloMosaic.StableHlo
open Idealize.ShloMosaic.WordCmp

/-! ## One trip, at the counter's value `n` -/

section Slices

variable (n : ℕ) (hn : n < 128)

/-- The start of a chunk's slice, the counter read as a number. -/
theorem start5 (w : S_.Idx → BitVec 32) (hw : w = fun _ => BitVec.ofNat 32 n) (hn : n < 128) (a : Fin 5) :
    (((![w, constantI S_ 32 0#32, constantI S_ 32 0#32, constantI S_ 32 0#32, constantI S_ 32 0#32] : Fin 5 → S_.Idx → BitVec 32)) a
      (Shape.Idx.first h_S_)).toInt = (((![n, 0, 0, 0, 0] : Fin 5 → ℕ) a : ℕ) : Int) := by
  subst hw
  match a with
  | ⟨0, _⟩ => exact toInt_ofNat_of_lt (by omega)
  | ⟨1, _⟩ => rfl
  | ⟨2, _⟩ => rfl
  | ⟨3, _⟩ => rfl
  | ⟨4, _⟩ => rfl

theorem start4 (w : S_.Idx → BitVec 32) (hw : w = fun _ => BitVec.ofNat 32 n) (hn : n < 128) (a : Fin 4) :
    (((![w, constantI S_ 32 0#32, constantI S_ 32 0#32, constantI S_ 32 0#32] : Fin 4 → S_.Idx → BitVec 32)) a
      (Shape.Idx.first h_S_)).toInt = (((![n, 0, 0, 0] : Fin 4 → ℕ) a : ℕ) : Int) := by
  subst hw
  match a with
  | ⟨0, _⟩ => exact toInt_ofNat_of_lt (by omega)
  | ⟨1, _⟩ => rfl
  | ⟨2, _⟩ => rfl
  | ⟨3, _⟩ => rfl

include hn in
theorem fits128 : S128x4x4x64x128.Slices ![n, 0, 0, 0, 0] S1x4x4x64x128 := ⟨rfl, fun a => by
  match a with
  | ⟨0, _⟩ => show n + 1 ≤ 128; omega
  | ⟨1, _⟩ => show 0 + 4 ≤ 4; omega
  | ⟨2, _⟩ => show 0 + 4 ≤ 4; omega
  | ⟨3, _⟩ => show 0 + 64 ≤ 64; omega
  | ⟨4, _⟩ => show 0 + 128 ≤ 128; omega⟩

include hn in
theorem fits256 : S128x4x4x64x256.Slices ![n, 0, 0, 0, 0] S1x4x4x64x256 := ⟨rfl, fun a => by
  match a with
  | ⟨0, _⟩ => show n + 1 ≤ 128; omega
  | ⟨1, _⟩ => show 0 + 4 ≤ 4; omega
  | ⟨2, _⟩ => show 0 + 4 ≤ 4; omega
  | ⟨3, _⟩ => show 0 + 64 ≤ 64; omega
  | ⟨4, _⟩ => show 0 + 256 ≤ 256; omega⟩

include hn in
theorem fits4 : S128x4x4x128.Slices ![n, 0, 0, 0] S1x4x4x128 := ⟨rfl, fun a => by
  match a with
  | ⟨0, _⟩ => show n + 1 ≤ 128; omega
  | ⟨1, _⟩ => show 0 + 4 ≤ 4; omega
  | ⟨2, _⟩ => show 0 + 4 ≤ 4; omega
  | ⟨3, _⟩ => show 0 + 128 ≤ 128; omega⟩

theorem slice128 (x : FVec Ideal S128x4x4x64x128 .f32) (w : S_.Idx → BitVec 32) (hw : w = fun _ => BitVec.ofNat 32 n)
    (b h : Fin 4) (c : Fin 64) (d : Fin 128) :
    shapeCast S4x4x64x128 (Host.dynamicSlice S1x4x4x64x128 x (fun k => (((![w, constantI S_ 32 0#32, constantI S_ 32 0#32, constantI S_ 32 0#32, constantI S_ 32 0#32] : Fin 5 → S_.Idx → BitVec 32)) k (Shape.Idx.first h_S_)).toInt) sliceFits_S128x4x4x64x128_S1x4x4x64x128) shapeCasts_S1x4x4x64x128_S4x4x64x128 (ix4 b h c d)
      = x (ix5 ⟨n, hn⟩ b h c d) := by
  rw [dynamicSlice_eq_extract _ x _ _ ![n, 0, 0, 0, 0] (fits128 n hn) (start5 n w hw hn)]
  pointwise

theorem slice256 (x : FVec Ideal S128x4x4x64x256 .f32) (w : S_.Idx → BitVec 32) (hw : w = fun _ => BitVec.ofNat 32 n)
    (b h : Fin 4) (c : Fin 64) (e : Fin 256) :
    shapeCast S4x4x64x256 (Host.dynamicSlice S1x4x4x64x256 x (fun k => (((![w, constantI S_ 32 0#32, constantI S_ 32 0#32, constantI S_ 32 0#32, constantI S_ 32 0#32] : Fin 5 → S_.Idx → BitVec 32)) k (Shape.Idx.first h_S_)).toInt) sliceFits_S128x4x4x64x256_S1x4x4x64x256) shapeCasts_S1x4x4x64x256_S4x4x64x256 (ix4 b h c e)
      = x (ix5 ⟨n, hn⟩ b h c e) := by
  rw [dynamicSlice_eq_extract _ x _ _ ![n, 0, 0, 0, 0] (fits256 n hn) (start5 n w hw hn)]
  pointwise

theorem slice4 (x : FVec Ideal S128x4x4x128 .f32) (w : S_.Idx → BitVec 32) (hw : w = fun _ => BitVec.ofNat 32 n)
    (b h : Fin 4) (d : Fin 128) :
    shapeCast S4x4x128 (Host.dynamicSlice S1x4x4x128 x (fun k => (((![w, constantI S_ 32 0#32, constantI S_ 32 0#32, constantI S_ 32 0#32] : Fin 4 → S_.Idx → BitVec 32)) k (Shape.Idx.first h_S_)).toInt) sliceFits_S128x4x4x128_S1x4x4x128) shapeCasts_S1x4x4x128_S4x4x128 (ix3 b h d)
      = x (ix4 ⟨n, hn⟩ b h d) := by
  rw [dynamicSlice_eq_extract _ x _ _ ![n, 0, 0, 0] (fits4 n hn) (start4 n w hw hn)]
  pointwise

include hn in
/-- The rows written at chunk `n`: those of the update there, the others as they were. -/
theorem update256 (x : FVec Ideal S128x4x4x64x256 .f32) (u : FVec Ideal S4x4x64x256 .f32) (w : S_.Idx → BitVec 32) (hw : w = fun _ => BitVec.ofNat 32 n)
    (p : Fin 128) (b h : Fin 4) (c : Fin 64) (e : Fin 256) :
    Host.dynamicUpdateSlice x (broadcastInDim S1x4x4x64x256 ![1, 2, 3, 4] bcast_S4x4x64x256_S1x4x4x64x256_1_2_3_4 u) (fun k => (((![w, constantI S_ 32 0#32, constantI S_ 32 0#32, constantI S_ 32 0#32, constantI S_ 32 0#32] : Fin 5 → S_.Idx → BitVec 32)) k (Shape.Idx.first h_S_)).toInt) updateFits_S128x4x4x64x256_S1x4x4x64x256 (ix5 p b h c e)
      = if p.val = n then u (ix4 b h c e) else x (ix5 p b h c e) := by
  rw [dynamicUpdateSlice_eq_update x _ _ _ ![n, 0, 0, 0, 0] (fits256 n hn) (start5 n w hw hn), updateSlice_apply]
  by_cases hp : p.val = n
  · rw [dif_pos (fun a => by
      match a with
      | ⟨0, _⟩ => show n ≤ p.val ∧ p.val < n + 1; omega
      | ⟨1, _⟩ => show 0 ≤ b.val ∧ b.val < 0 + 4; omega
      | ⟨2, _⟩ => show 0 ≤ h.val ∧ h.val < 0 + 4; omega
      | ⟨3, _⟩ => show 0 ≤ c.val ∧ c.val < 0 + 64; omega
      | ⟨4, _⟩ => show 0 ≤ e.val ∧ e.val < 0 + 256; omega), if_pos hp]
    pointwise
  · rw [dif_neg (fun hin => hp (by
      have h0 : n ≤ p.val ∧ p.val < n + 1 := hin 0
      omega)), if_neg hp]

end Slices

section Trip

variable (V0 : Valuation τ sig (Elt Ideal)) (n : ℕ) (hn : n < 128) (w : S_.Idx → BitVec 32) (hw : w = fun _ => BitVec.ofNat 32 n)
  (h10 : V0 (Proc.devRef .tc main_v125_10) = w) (s : FVec Ideal S4x4x128x256 .f32) (h12 : V0 (Proc.devRef .tc main_v125_12) = s)

include hw h10 h12 in
theorem step12_apply (x9 : FVec Ideal S128x4x4x128 .f32) (h9 : V0 (Proc.devRef .tc main_v125_9) = x9)
    (x7 : FVec Ideal S128x4x4x64x128 .f32) (h7 : V0 (Proc.devRef .tc main_v125_7) = x7)
    (x8 : FVec Ideal S128x4x4x64x256 .f32) (h8 : V0 (Proc.devRef .tc main_v125_8) = x8) (b h : Fin 4) (d : Fin 128) (e : Fin 256) :
    (step_main_v125_12 V0 : FVec Ideal S4x4x128x256 .f32) (ix4 b h d e)
      = (s (ix4 b h d e) * x9 (ix4 ⟨n, hn⟩ b h d) + ∑ c : Fin 64, x7 (ix5 ⟨n, hn⟩ b h c d) * x8 (ix5 ⟨n, hn⟩ b h c e) : EReal) := by
  rw [← slice4 n hn x9 w hw]
  simp only [← slice128 n hn x7 w hw, ← slice256 n hn x8 w hw]
  unfold step_main_v125_12
  rw [h12, h9, h7, h8, h10]
  generalize shapeCast S4x4x128 (Host.dynamicSlice S1x4x4x128 _ _ _) _ = y9
  generalize shapeCast S4x4x64x128 (Host.dynamicSlice S1x4x4x64x128 _ _ _) _ = y7
  generalize shapeCast S4x4x64x256 (Host.dynamicSlice S1x4x4x64x256 _ _ _) _ = y8
  simp only [id]
  pointwise

include hw h10 h12 in
theorem step14_apply (x5 : FVec Ideal S128x4x4x64x256 .f32) (h5 : V0 (Proc.devRef .tc main_v125_5) = x5)
    (x6 : FVec Ideal S128x4x4x64x128 .f32) (h6 : V0 (Proc.devRef .tc main_v125_6) = x6)
    (o : FVec Ideal S128x4x4x64x256 .f32) (h14 : V0 (Proc.devRef .tc main_v125_14) = o)
    (p : Fin 128) (b h : Fin 4) (c : Fin 64) (e : Fin 256) :
    (step_main_v125_14 V0 : FVec Ideal S128x4x4x64x256 .f32) (ix5 p b h c e)
      = (if p.val = n then x5 (ix5 ⟨n, hn⟩ b h c e) + ∑ d : Fin 128, x6 (ix5 ⟨n, hn⟩ b h c d) * s (ix4 b h d e)
        else o (ix5 p b h c e) : EReal) := by
  unfold step_main_v125_14
  rw [h14, h5, h6, h12, h10]
  refine (update256 n hn o _ w hw p b h c e).trans ?_
  rw [← slice256 n hn x5 w hw]
  simp only [← slice128 n hn x6 w hw]
  generalize shapeCast S4x4x64x128 (Host.dynamicSlice S1x4x4x64x128 _ _ _) _ = y6
  generalize shapeCast S4x4x64x256 (Host.dynamicSlice S1x4x4x64x256 _ _ _) _ = y5
  by_cases hp : p.val = n
  · rw [if_pos hp, if_pos hp]
    pointwise
  · rw [if_neg hp, if_neg hp]

end Trip

/-! ## All the trips -/

section Loop

variable (m : (ℓ : Loc nD τ sig) → Buf (Elt Ideal) ℓ) (c : Dev nD)

/-- The buffers before trip `k`. -/
abbrev trip (k : ℕ) : Valuation τ sig (Elt Ideal) := STEP^[k] (entryContents preI m c)

theorem trip_succ (k : ℕ) : trip m c (k + 1) = STEP (trip m c k) := Function.iterate_succ_apply' ..

theorem trip_5 : ∀ k, trip m c k (Proc.devRef .tc main_v125_5) = intra (m ((c.tc : Thread nD τ).loc main_arg0)) (m ((c.tc : Thread nD τ).loc main_arg1))
  | 0 => entry_5 m c
  | k + 1 => by rw [trip_succ, STEP_main_v125_5]; exact trip_5 k
theorem trip_6 : ∀ k, trip m c k (Proc.devRef .tc main_v125_6) = qdec (m ((c.tc : Thread nD τ).loc main_arg0)) (m ((c.tc : Thread nD τ).loc main_arg1))
  | 0 => entry_6 m c
  | k + 1 => by rw [trip_succ, STEP_main_v125_6]; exact trip_6 k
theorem trip_7 : ∀ k, trip m c k (Proc.devRef .tc main_v125_7) = kdec (m ((c.tc : Thread nD τ).loc main_arg0)) (m ((c.tc : Thread nD τ).loc main_arg1))
  | 0 => entry_7 m c
  | k + 1 => by rw [trip_succ, STEP_main_v125_7]; exact trip_7 k
theorem trip_8 : ∀ k, trip m c k (Proc.devRef .tc main_v125_8) = vals (m ((c.tc : Thread nD τ).loc main_arg0))
  | 0 => entry_8 m c
  | k + 1 => by rw [trip_succ, STEP_main_v125_8]; exact trip_8 k
theorem trip_9 : ∀ k, trip m c k (Proc.devRef .tc main_v125_9) = sdec (m ((c.tc : Thread nD τ).loc main_arg1))
  | 0 => entry_9 m c
  | k + 1 => by rw [trip_succ, STEP_main_v125_9]; exact trip_9 k

/-- The counter before trip `k` is `k`. -/
theorem trip_10 : ∀ k, trip m c k (Proc.devRef .tc main_v125_10) = (fun _ => BitVec.ofNat 32 k : S_.Idx → BitVec 32)
  | 0 => ctr_entry m c
  | k + 1 => by
    rw [trip_succ, STEP_main_v125_10]
    unfold step_main_v125_10
    rw [trip_10 k]
    funext i
    show BitVec.ofNat 32 k + 1#32 = BitVec.ofNat 32 (k + 1)
    rw [BitVec.ofNat_add]

/-- The state before trip `k` is the state before chunk `k`. -/
theorem trip_12 : ∀ k, k ≤ 128 → ∀ (b h : Fin 4) (d : Fin 128) (e : Fin 256),
    (trip m c k (Proc.devRef .tc main_v125_12) : FVec Ideal S4x4x128x256 .f32) (ix4 b h d e)
      = (Gla.stateAt (m ((c.tc : Thread nD τ).loc main_arg0)) (m ((c.tc : Thread nD τ).loc main_arg1)) b h k d e : EReal)
  | 0, _, b, h, d, e => entry_12 m c b h d e
  | k + 1, hk, b, h, d, e => by
    have ih := trip_12 k (by omega) b h d e
    have hc : (⟨k, by omega⟩ : Fin 128) = Gla.chunk k := Fin.ext (Nat.mod_eq_of_lt (by omega)).symm
    rw [trip_succ, STEP_main_v125_12]
    refine (step12_apply (trip m c k) k (by omega) _ rfl (trip_10 m c k) _ rfl _ (trip_9 m c k) _ (trip_7 m c k) _ (trip_8 m c k) b h d e).trans ?_
    rw [ih]
    simp only [sdec_apply, kdec_apply, vals_apply, hc]
    rfl

/-- The rows that the trip of chunk `p` writes. -/
theorem row_at (p : Fin 128) (b h : Fin 4) (x : Fin 64) (e : Fin 256) :
    (intra (m ((c.tc : Thread nD τ).loc main_arg0)) (m ((c.tc : Thread nD τ).loc main_arg1)) (ix5 p b h x e)
      + ∑ d : Fin 128, qdec (m ((c.tc : Thread nD τ).loc main_arg0)) (m ((c.tc : Thread nD τ).loc main_arg1)) (ix5 p b h x d)
          * (trip m c p.val (Proc.devRef .tc main_v125_12) : FVec Ideal S4x4x128x256 .f32) (ix4 b h d e) : EReal)
      = Gla.preAt (m ((c.tc : Thread nD τ).loc main_arg0)) (m ((c.tc : Thread nD τ).loc main_arg1)) b h p x e := by
  simp only [qdec_apply, trip_12 m c p.val p.isLt.le]
  rw [intra_apply]
  rfl

/-- The rows after `k` trips, of the chunks already met. -/
theorem trip_14 : ∀ k, k ≤ 128 → ∀ (p : Fin 128), p.val < k → ∀ (b h : Fin 4) (x : Fin 64) (e : Fin 256),
    (trip m c k (Proc.devRef .tc main_v125_14) : FVec Ideal S128x4x4x64x256 .f32) (ix5 p b h x e)
      = (Gla.preAt (m ((c.tc : Thread nD τ).loc main_arg0)) (m ((c.tc : Thread nD τ).loc main_arg1)) b h p x e : EReal)
  | 0, _, p, hp, _, _, _, _ => absurd hp (Nat.not_lt_zero _)
  | k + 1, hk, p, hp, b, h, x, e => by
    rw [trip_succ, STEP_main_v125_14]
    refine (step14_apply (trip m c k) k (by omega) _ rfl (trip_10 m c k) _ rfl _ (trip_5 m c k) _ (trip_6 m c k) _ rfl p b h x e).trans ?_
    by_cases hpk : p.val = k
    · rw [if_pos hpk]
      subst hpk
      exact row_at m c p b h x e
    · rw [if_neg hpk]
      exact trip_14 k (by omega) p (by omega) b h x e

end Loop

/-! ## The head norm and the gate -/

/-- The gate as the product with a reciprocal. -/
theorem fin_eq (o : Fin 256 → EReal) (g z : EReal) (e : Fin 256) :
    o e * Ideal.rsqrt (Ideal.div (∑ x : Fin 256, o x * o x) (Ideal.ofBits .f32 0x43800000#32) + Ideal.ofBits .f32 0x3727C5AC#32) * g
      * (z * Ideal.div 1 (1 + Ideal.exp (-z))) = Gla.fin o g z e := by
  unfold Gla.fin
  exact congrArg (fun t => o e * Ideal.rsqrt (Ideal.div (∑ x : Fin 256, o x * o x) (Ideal.ofBits .f32 0x43800000#32)
    + Ideal.ofBits .f32 0x3727C5AC#32) * g * t) (Cert.Up.div_eq_mul z (-z))

/-- The rows in the order of the array, the head norm over them, the gain and the gate: what is left of the result once its
    rows are known. -/
theorem out_apply (V0 : Valuation τ sig (Elt Ideal)) (A : FVec Ideal S32768x7168 .bf16) (h0 : V0 (Proc.devRef .tc main_arg0) = A)
    (g : FVec Ideal S1024 .f32) (h3 : V0 (Proc.devRef .tc main_arg3) = g)
    (o : FVec Ideal S128x4x4x64x256 .f32) (h14 : V0 (Proc.devRef .tc main_v125_14) = o) (r : Fin 32768) (j : Fin 1024) :
    (out_main_v179 V0 : FVec Ideal S32768x1024 .bf16) (ix2 r j)
      = (Gla.fin (fun e => o (ix5 (Gla.chunkOf r) (Gla.seqOf r) (Gla.headOf j) (Gla.inChunk r) e)) (g (ix1 j))
          (A (ix2 r ⟨6144 + j.val, by omega⟩)) (Gla.inHead j) : EReal) := by
  have hm : Gla.inChunk r = ⟨r.val % 8192 % 64, Nat.mod_lt _ (by decide)⟩ := Fin.ext (by show r.val % 64 = r.val % 8192 % 64; omega)
  rw [hm, ← fin_eq]
  unfold out_main_v179 Gla.chunkOf Gla.seqOf Gla.headOf Gla.inHead
  rw [h0, h3, h14]
  pointwise

theorem out_gla (m : (ℓ : Loc nD τ sig) → Buf (Elt Ideal) ℓ) (c : Dev nD) :
    (out_main_v179 (STEP^[128] (entryContents preI m c)) : FVec Ideal S32768x1024 .bf16)
      = Gla.G (m ((c.tc : Thread nD τ).loc main_arg0)) (m ((c.tc : Thread nD τ).loc main_arg1)) (m ((c.tc : Thread nD τ).loc main_arg3)) := by
  funext y
  obtain ⟨i, j, rfl⟩ : ∃ (i : Fin 32768) (j : Fin 1024), y = ix2 i j := ⟨y 0, y 1, eq_ix2 y⟩
  refine (out_apply (trip m c 128) (m ((c.tc : Thread nD τ).loc main_arg0)) (iter_main_arg0 m c 128)
    (m ((c.tc : Thread nD τ).loc main_arg3)) (iter_main_arg3 m c 128) (trip m c 128 (Proc.devRef .tc main_v125_14)) rfl i j).trans ?_
  rw [Gla.G_apply]
  have hr : (fun e => (trip m c 128 (Proc.devRef .tc main_v125_14) : FVec Ideal S128x4x4x64x256 .f32)
        (ix5 (Gla.chunkOf i) (Gla.seqOf i) (Gla.headOf j) (Gla.inChunk i) e))
      = Gla.preAt (m ((c.tc : Thread nD τ).loc main_arg0)) (m ((c.tc : Thread nD τ).loc main_arg1)) (Gla.seqOf i) (Gla.headOf j)
          (Gla.chunkOf i) (Gla.inChunk i) :=
    funext fun e => trip_14 m c 128 (Nat.le_refl _) (Gla.chunkOf i) (Gla.chunkOf i).isLt _ _ _ e
  rw [hr]

/-- The reference's run, its gated result at its function of the arguments, and the arguments unchanged. -/
theorem run_gla (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v179) = Gla.G (m ((c.tc : Thread nD τ).loc main_arg0)) (m ((c.tc : Thread nD τ).loc main_arg1))
          (m ((c.tc : Thread nD τ).loc main_arg3))
      ∧ r.2.mem ((c.tc : Thread nD τ).loc main_v177) = out_main_v177 (STEP^[128] (entryContents preI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h c).2.1.trans (out_gla m c), (h c).1, (h c).2.2⟩) (run m ρ)

end Cert.ReferenceIdeal.Value

end
-- ==== Proof.Down.Value.lean ====
/- The down projection with its residual and layer norm: the result array as one function of the argument arrays. -/
module

public import proofs.«01_k».proof.Proof.Gen.Kernel2Ideal.Value
public import proofs.«01_k».proof.Proof.Gen.Reference2Ideal.Read
public import Idealize.ShloMosaic.Lib.Pointwise
public import Idealize.ShloMosaic.Lib.Pipeline.ValueKit.Tiles

@[expose] public section

set_option maxRecDepth 16384

noncomputable section

namespace Cert.Down

open Idealize.ShloMosaic Idealize.ShloMosaic.TcCoe Idealize.SL.Sem

/-- A row's layer norm at one place: `(y j - mean) * rsqrt (variance + 1e-5) * g + b`, the row 2048 long. -/
def lnAt (y : Fin 2048 → EReal) (g b : EReal) (j : Fin 2048) : EReal :=
  (y j - Ideal.div (∑ k, y k) (Ideal.ofBits .f32 0x45000000#32))
    * Ideal.rsqrt (Ideal.div (∑ k, (y k - Ideal.div (∑ k, y k) (Ideal.ofBits .f32 0x45000000#32))
        * (y k - Ideal.div (∑ k, y k) (Ideal.ofBits .f32 0x45000000#32))) (Ideal.ofBits .f32 0x45000000#32)
      + Ideal.ofBits .f32 0x3727C5AC#32) * g + b

/-- The row before its norm: the residual scaled, plus the row of activations times the weights. -/
def rowAt {R : ℕ} (x : (⟨2, ![R, 5632]⟩ : Shape).Idx → EReal) (w : (⟨2, ![5632, 2048]⟩ : Shape).Idx → EReal)
    (r : (⟨2, ![R, 2048]⟩ : Shape).Idx → EReal) (i : Fin R) (j : Fin 2048) : EReal :=
  Ideal.ofBits .f32 0x3F9837F0#32 * r (ix2 i j) + ∑ l : Fin 5632, x (ix2 i l) * w (ix2 l j)

open Cert.Kernel2Ideal Cert.Kernel2Ideal.Gen

section Payload

variable (x : FVec Ideal S128x5632 .bf16) (w : FVec Ideal S5632x2048 .bf16) (r : FVec Ideal S128x2048 .f32)
    (g b : FVec Ideal S1x2048 .f32) (i : Fin 128) (j : Fin 2048)

/-! The four groups of 128 rows are computed by one function, printed four times. -/

theorem pay2_apply : k0_pay2 (F := Ideal) x w r g b (ix2 i j) = lnAt (rowAt x w r i) (g (ix2 0 j)) (b (ix2 0 j)) j := by
  pointwise [k0_pay2, lnAt, rowAt]

theorem pay3_eq : k0_pay3 (F := Ideal) x w r g b = k0_pay2 x w r g b := rfl

theorem pay5_eq : k0_pay5 (F := Ideal) (k0_pay4 x w) r (Scalar.ofBits .f32 0x3F9837F0#32) g b = k0_pay2 x w r g b := rfl

theorem pay1_eq : k0_pay1 (F := Ideal) (k0_pay6 x w r) (k0_pay7 g) b = k0_pay2 x w r g b := rfl

end Payload

/-- Rows of the norm are equal where the data they are made of are. -/
theorem lnAt_rowAt_congr {R R' : ℕ} {x : (⟨2, ![R, 5632]⟩ : Shape).Idx → EReal} {x' : (⟨2, ![R', 5632]⟩ : Shape).Idx → EReal}
    {w w' : (⟨2, ![5632, 2048]⟩ : Shape).Idx → EReal}
    {r : (⟨2, ![R, 2048]⟩ : Shape).Idx → EReal} {r' : (⟨2, ![R', 2048]⟩ : Shape).Idx → EReal} {i : Fin R} {i' : Fin R'}
    {g g' b b' : EReal} {j j' : Fin 2048}
    (hx : ∀ l, x (ix2 i l) = x' (ix2 i' l)) (hw : w = w') (hr : ∀ l, r (ix2 i l) = r' (ix2 i' l))
    (hg : g = g') (hb : b = b') (hj : j = j') :
    lnAt (rowAt x w r i) g b j = lnAt (rowAt x' w' r' i') g' b' j' := by
  subst hw hg hb hj
  congr 1
  funext k
  simp only [rowAt, hx, hr]

/-- One group of 128 rows, starting at row `o` of the block. -/
theorem group_apply (o : ℕ) (inbx : ∀ a, (![o, 0] : Fin 2 → ℕ) a + S128x5632.size a ≤ S512x5632.size a)
    (inbr : ∀ a, (![o, 0] : Fin 2 → ℕ) a + S128x2048.size a ≤ S512x2048.size a)
    (x : Vec Ideal S512x5632 .bf16) (w : Vec Ideal S5632x2048 .bf16) (r : Vec Ideal S512x2048 .f32)
    (g b : Vec Ideal S1x2048 .f32) (i : Fin 512) (j : Fin 2048) (y : S128x2048.Idx) (h0 : i.val = o + (y 0).val)
    (h1 : j.val = (y 1).val) :
    k0_pay2 (F := Ideal) (View.ld x (Rect.unit (s := S512x5632) ![o, 0] S128x5632.size inbx)) (View.ld w r0_1)
      (View.ld r (Rect.unit (s := S512x2048) ![o, 0] S128x2048.size inbr)) (View.ld g r0_3) (View.ld b r0_3) y
    = lnAt (rowAt x w r i) (g (ix2 0 j)) (b (ix2 0 j)) j := by
  obtain ⟨y0, y1, rfl⟩ : ∃ (y0 : Fin 128) (y1 : Fin 2048), y = ix2 y0 y1 := ⟨y 0, y 1, eq_ix2 y⟩
  have hw : View.ld w r0_1 = w := View.ld_unit_zero (by funext a; fin_cases a <;> rfl) _ _
  have hgb : ∀ v : Vec Ideal S1x2048 .f32, View.ld v r0_3 = v := fun v => View.ld_unit_zero (by funext a; fin_cases a <;> rfl) _ _
  have hj : y1 = j := Fin.ext h1.symm
  rw [hw, hgb, hgb, pay2_apply]
  refine lnAt_rowAt_congr (fun l => ?_) rfl (fun l => ?_) (by rw [hj]) (by rw [hj]) hj
  · refine View.ld_unit_apply_of x _ _ inbx _ _ fun a => ?_
    match a with
    | ⟨0, _⟩ => exact h0
    | ⟨1, _⟩ => show l.val = 0 + l.val; omega
  · refine View.ld_unit_apply_of r _ _ inbr _ _ fun a => ?_
    match a with
    | ⟨0, _⟩ => exact h0
    | ⟨1, _⟩ => show l.val = 0 + l.val; omega

/-- The block a grid point leaves: each of its 512 rows is the norm of its own row. -/
theorem out_apply (x : Vec Ideal S512x5632 .bf16) (w : Vec Ideal S5632x2048 .bf16) (r : Vec Ideal S512x2048 .f32)
    (g b : Vec Ideal S1x2048 .f32) (i : Fin 512) (j : Fin 2048) :
    out0_5 (F := Ideal) x w r g b (ix2 i j) = lnAt (rowAt x w r i) (g (ix2 0 j)) (b (ix2 0 j)) j := by
  unfold out0_5
  rw [pay1_eq, pay5_eq, pay3_eq]
  canon_tiles y h using cover0_5 ..
  · exact group_apply 384 _ _ x w r g b i j y h0 h1
  · exact group_apply 256 _ _ x w r g b i j y h0 h1
  · exact group_apply 128 _ _ x w r g b i j y h0 h1
  · exact group_apply 0 _ _ x w r g b i j y (h0.trans (Nat.zero_add _).symm) h1

/-- The whole result: every row of the array is the norm of its own row. -/
def G (x : Vec Ideal S32768x5632 .bf16) (w : Vec Ideal S5632x2048 .f32) (r : Vec Ideal S32768x2048 .f32)
    (g b : Vec Ideal S2048 .f32) : Vec Ideal S32768x2048 .f32 :=
  fun i => lnAt (rowAt x w r (i 0)) (g (ix1 (i 1))) (b (ix1 (i 1))) (i 1)

variable (m : (ℓ : Loc nD τ sig) → Buf (Elt Ideal) ℓ) (ρ : Dev nD → PrngReg)

theorem idx_facts : ∀ t : Fin cfg0.N, (win0_0.index t 0 = t.val ∧ win0_0.index t 1 = 0)
    ∧ (win0_1.index t 0 = 0 ∧ win0_1.index t 1 = 0) ∧ (win0_2.index t 0 = t.val ∧ win0_2.index t 1 = 0)
    ∧ (win0_3.index t 0 = 0 ∧ win0_3.index t 1 = 0) ∧ (win0_4.index t 0 = 0 ∧ win0_4.index t 1 = 0)
    ∧ (win0_5.index t 0 = t.val ∧ win0_5.index t 1 = 0) :=
  (by decide +kernel : ∀ t : Fin grid0.N, _)

/-- Row `i` of the blocks at point `t` is this row of the arrays. -/
def row (t : Fin cfg0.N) (i : Fin 512) : Fin 32768 :=
  ⟨t.val * 512 + i.val, by have h : t.val < 64 := t.isLt; omega⟩

theorem blk0 (c : Dev nD) (t : Fin cfg0.N) (i : Fin 512) (l : Fin 5632) :
    iblk m c 0 t (ix2 i l) = m ((c : Thread nD τ).loc main_arg0) (ix2 (row t i) l) := by
  rw [← V_main_arg0 m c]
  obtain ⟨⟨e0, e1⟩, -⟩ := idx_facts t
  refine congrArg (V m c main_arg0) (funext fun a => Fin.ext ?_)
  match a with
  | ⟨0, _⟩ => show win0_0.index t 0 * 512 + 1 * i.val = t.val * 512 + i.val; omega
  | ⟨1, _⟩ => show win0_0.index t 1 * 5632 + 1 * l.val = l.val; omega

/-! The weights cast, and the two rows of the norm laid out, by the host before the call. -/

theorem V_v0 (c : Dev nD) : (V m c main_v0 : S5632x2048.Idx → EReal) = m ((c : Thread nD τ).loc main_arg1) := by
  unfold_abbrev_sides
  after_results
  rfl

theorem V_v1 (c : Dev nD) (j : Fin 2048) :
    (V m c main_v1 : S1x2048.Idx → EReal) (ix2 0 j) = m ((c : Thread nD τ).loc main_arg3) (ix1 j) := by
  unfold_abbrev_sides
  after_results
  pointwise

theorem V_v2 (c : Dev nD) (j : Fin 2048) :
    (V m c main_v2 : S1x2048.Idx → EReal) (ix2 0 j) = m ((c : Thread nD τ).loc main_arg4) (ix1 j) := by
  unfold_abbrev_sides
  after_results
  pointwise

theorem blk1 (c : Dev nD) (t : Fin cfg0.N) : iblk m c 1 t = m ((c : Thread nD τ).loc main_arg1) := by
  obtain ⟨-, ⟨e0, e1⟩, -⟩ := idx_facts t
  refine funext fun y => (congrArg (V m c main_v0) (funext fun a => Fin.ext ?_) : iblk m c 1 t y = V m c main_v0 y).trans ?_
  · match a with
    | ⟨0, _⟩ => show win0_1.index t 0 * 5632 + 1 * (y 0).val = (y 0).val; omega
    | ⟨1, _⟩ => show win0_1.index t 1 * 2048 + 1 * (y 1).val = (y 1).val; omega
  · exact congrFun (V_v0 m c) y

theorem blk2 (c : Dev nD) (t : Fin cfg0.N) (i : Fin 512) (l : Fin 2048) :
    iblk m c 2 t (ix2 i l) = m ((c : Thread nD τ).loc main_arg2) (ix2 (row t i) l) := by
  rw [← V_main_arg2 m c]
  obtain ⟨-, -, ⟨e0, e1⟩, -⟩ := idx_facts t
  refine congrArg (V m c main_arg2) (funext fun a => Fin.ext ?_)
  match a with
  | ⟨0, _⟩ => show win0_2.index t 0 * 512 + 1 * i.val = t.val * 512 + i.val; omega
  | ⟨1, _⟩ => show win0_2.index t 1 * 2048 + 1 * l.val = l.val; omega

theorem blk3 (c : Dev nD) (t : Fin cfg0.N) (j : Fin 2048) :
    iblk m c 3 t (ix2 0 j) = m ((c : Thread nD τ).loc main_arg3) (ix1 j) := by
  obtain ⟨-, -, -, ⟨e0, e1⟩, -⟩ := idx_facts t
  refine (congrArg (V m c main_v1) (funext fun a => Fin.ext ?_) : iblk m c 3 t (ix2 0 j) = V m c main_v1 (ix2 0 j)).trans ?_
  · match a with
    | ⟨0, _⟩ => show win0_3.index t 0 * 1 + 1 * 0 = 0; omega
    | ⟨1, _⟩ => show win0_3.index t 1 * 2048 + 1 * j.val = j.val; omega
  · exact V_v1 m c j

theorem blk4 (c : Dev nD) (t : Fin cfg0.N) (j : Fin 2048) :
    iblk m c 4 t (ix2 0 j) = m ((c : Thread nD τ).loc main_arg4) (ix1 j) := by
  obtain ⟨-, -, -, -, ⟨e0, e1⟩, -⟩ := idx_facts t
  refine (congrArg (V m c main_v2) (funext fun a => Fin.ext ?_) : iblk m c 4 t (ix2 0 j) = V m c main_v2 (ix2 0 j)).trans ?_
  · match a with
    | ⟨0, _⟩ => show win0_4.index t 0 * 1 + 1 * 0 = 0; omega
    | ⟨1, _⟩ => show win0_4.index t 1 * 2048 + 1 * j.val = j.val; omega
  · exact V_v2 m c j

/-- What a point writes back is its block of the whole result. -/
theorem flushed_eq (c : Dev nD) (t : Fin cfg0.N) :
    (dats m 0 c).flushed 5 t = ((cfg0.win 5).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4))) := by
  rw [Value.flushed5]
  obtain ⟨-, -, -, -, -, ⟨e0, e1⟩⟩ := idx_facts t
  refine funext fun y => ?_
  obtain ⟨i, j, rfl⟩ : ∃ (i : Fin 512) (j : Fin 2048), y = ix2 i j := ⟨y 0, y 1, eq_ix2 y⟩
  have he : ((cfg0.win 5).blk t).view.emb (ix2 i j) = (ix2 (row t i) j : S32768x2048.Idx) := by
    funext a
    refine Fin.ext ?_
    match a with
    | ⟨0, _⟩ => show win0_5.index t 0 * 512 + 1 * i.val = t.val * 512 + i.val; omega
    | ⟨1, _⟩ => show win0_5.index t 1 * 2048 + 1 * j.val = j.val; omega
  show out0_5 _ _ _ _ _ (ix2 i j) = G _ _ _ _ _ (((cfg0.win 5).blk t).view.emb (ix2 i j))
  rw [out_apply, he]
  exact lnAt_rowAt_congr (fun l => blk0 m c t i l) (blk1 m c t) (fun l => blk2 m c t i l) (blk3 m c t j) (blk4 m c t j) rfl

/-- Every place of the result array is in some point's block. -/
theorem covered (i : S32768x2048.Idx) :
    ∃ t : Fin cfg0.N, (cfg0.win 5).flush t = true ∧ i ∈ ((cfg0.win 5).blk t).view.set := by
  obtain ⟨r, j, rfl⟩ : ∃ (r : Fin 32768) (j : Fin 2048), i = ix2 r j := ⟨i 0, i 1, eq_ix2 i⟩
  have hN : r.val / 512 < cfg0.N := by show r.val / 512 < 64; omega
  refine ⟨⟨r.val / 512, hN⟩, flush0_5 _, ?_⟩
  obtain ⟨-, -, -, -, -, ⟨e0, e1⟩⟩ := idx_facts ⟨r.val / 512, hN⟩
  have he : ((cfg0.win 5).blk ⟨r.val / 512, hN⟩).view.emb (ix2 ⟨r.val % 512, Nat.mod_lt _ (by decide)⟩ j : S512x2048.Idx)
      = (ix2 r j : S32768x2048.Idx) := by
    funext a
    refine Fin.ext ?_
    match a with
    | ⟨0, _⟩ =>
      show win0_5.index ⟨r.val / 512, hN⟩ 0 * 512 + 1 * (r.val % 512) = r.val
      have e : win0_5.index ⟨r.val / 512, hN⟩ 0 = r.val / 512 := e0
      omega
    | ⟨1, _⟩ =>
      show win0_5.index ⟨r.val / 512, hN⟩ 1 * 2048 + 1 * j.val = j.val
      have e : win0_5.index ⟨r.val / 512, hN⟩ 1 = 0 := e1
      omega
  rw [← he]
  exact ((cfg0.win 5).blk ⟨r.val / 512, hN⟩).view.emb_mem_set _

/-- The call's run, with the result array at its function of the arguments, and the arguments unchanged. -/
theorem run : θ_run defs (onTc (τ := τ) (main (F := Ideal))) ⟨m, fun _ => 0, ρ⟩ fun r => ∀ c : Dev nD,
      r.2.mem ((c : Thread nD τ).loc main_v3)
        = G (m ((c : Thread nD τ).loc main_arg0)) (m ((c : Thread nD τ).loc main_arg1)) (m ((c : Thread nD τ).loc main_arg2))
        (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans
      ((dats m 0 c).arrAt_eq_of_cover 5 _ (fun t _ => flushed_eq m c t) covered), (h c).2⟩) (Value.run_blocks m ρ)

open Cert.Reference2Ideal.Read in
/-- The reference, read at an index, is the same function. -/
theorem ref_eq (x : Vec Ideal S32768x5632 .bf16) (w : Vec Ideal S5632x2048 .f32) (r : Vec Ideal S32768x2048 .f32)
    (g b : Vec Ideal S2048 .f32) :
    val_main_v28 (F := Ideal) x w r g b = G x w r g b := by
  funext i
  obtain ⟨p, j, rfl⟩ : ∃ (p : Fin 32768) (j : Fin 2048), i = ix2 p j := ⟨i 0, i 1, eq_ix2 i⟩
  have hy : ∀ k, val_main_v4 (F := Ideal) x w r (ix2 p k) = rowAt x w r p k := fun k => by
    pointwise [val_main_v4, val_main_v3, val_main_v2, val_main_v1, val_main_v0, val_main_cst, rowAt]
  pointwise [val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_cst_0, val_main_cst_1, val_main_cst_2, val_main_cst_3, val_main_cst_4, hy, G, lnAt]

end Cert.Down
-- ==== Proof.Up.Value.lean ====
/- The up projection's run: what every grid point keeps and writes back, hence the result array. -/
module

public import proofs.«01_k».proof.Proof.Up.Math

@[expose] public section

set_option maxRecDepth 16384

noncomputable section

namespace Cert.Up

open Idealize.ShloMosaic Idealize.ShloMosaic.TcCoe Idealize.SL.Sem
open Cert.Kernel3Ideal Cert.Kernel3Ideal.Gen

/-! ## The rows kept for a row block -/

/-- The rows kept for row block `a`: the sixteen before it, zero at a sequence's start, then its own. -/
def keptOf (x : (⟨2, ![32768, 2048]⟩ : Shape).Idx → EReal) (a : Fin 32) : (⟨2, ![1040, 2048]⟩ : Shape).Idx → EReal := fun y =>
  if (y 0).val < 16 then x (ix2 ⟨a.val * 1024 - 16 + (y 0).val, by have h : (y 0).val < 1040 := (y 0).isLt; omega⟩ (y 1)) * (if a.val % 8 = 0 then 0 else 1)
  else x (ix2 ⟨a.val * 1024 + ((y 0).val - 16), by have h : (y 0).val < 1040 := (y 0).isLt; omega⟩ (y 1))

theorem kept_apply (x : (⟨2, ![32768, 2048]⟩ : Shape).Idx → EReal) (a : Fin 32) (s : Fin 1040) (l : Fin 2048) :
    keptOf x a (ix2 s l) = if s.val < 16 then x (ix2 ⟨a.val * 1024 - 16 + s.val, by omega⟩ l) * (if a.val % 8 = 0 then 0 else 1)
      else x (ix2 ⟨a.val * 1024 + (s.val - 16), by omega⟩ l) := rfl

theorem dot_kept (x : (⟨2, ![32768, 2048]⟩ : Shape).Idx → EReal) (w : (⟨2, ![2048, 11264]⟩ : Shape).Idx → EReal) (a : Fin 32)
    (r : Fin 1024) (k : ℕ) (hk : k ≤ 2) (wb : (⟨2, ![2048, 512]⟩ : Shape).Idx → EReal) (j : Fin 512) (q : Fin 11264)
    (hw : ∀ l, wb (ix2 l j) = w (ix2 l q)) :
    dotAt (keptOf x a) wb (⟨16 + r.val - k, by omega⟩ : Fin 1040) j = before x w k ⟨a.val * 1024 + r.val, by omega⟩ q := by
  rw [before]
  by_cases hr : k ≤ r.val
  · rw [if_pos (by show k ≤ (a.val * 1024 + r.val) % 8192; omega)]
    refine Finset.sum_congr rfl fun l _ => ?_
    rw [hw l]
    refine congrArg (· * w (ix2 l q)) ?_
    rw [kept_apply, if_neg (by show ¬16 + r.val - k < 16; omega)]
    refine congrArg (fun p => x (ix2 p l)) (Fin.ext ?_)
    show a.val * 1024 + (16 + r.val - k - 16) = a.val * 1024 + r.val - k
    omega
  · by_cases ha : a.val % 8 = 0
    · rw [if_neg (by show ¬k ≤ (a.val * 1024 + r.val) % 8192; omega)]
      refine Finset.sum_eq_zero fun l _ => ?_
      rw [kept_apply, if_pos (by show 16 + r.val - k < 16; omega), if_pos ha, mul_zero, zero_mul]
    · rw [if_pos (by show k ≤ (a.val * 1024 + r.val) % 8192; omega)]
      refine Finset.sum_congr rfl fun l _ => ?_
      rw [hw l]
      refine congrArg (· * w (ix2 l q)) ?_
      rw [kept_apply, if_pos (by show 16 + r.val - k < 16; omega), if_neg ha, mul_one]
      refine congrArg (fun p => x (ix2 p l)) (Fin.ext ?_)
      show a.val * 1024 - 16 + (16 + r.val - k) = a.val * 1024 + r.val - k
      omega

/-- The kept rows at an index. -/
theorem lhs_apply (i : grid0.Coords) (x0 : Vec Ideal S1024x2048 .bf16) (x1 : Vec Ideal S16x2048 .bf16) (s : Fin 1040) (l : Fin 2048) :
    lhsOf (F := Ideal) i x0 x1 (ix2 s l)
      = if h : s.val < 16 then x1 (ix2 ⟨s.val, h⟩ l) * (if (i 0).val % 8 = 0 then 0 else 1) else x0 (ix2 ⟨s.val - 16, by omega⟩ l) := by
  unfold lhsOf
  by_cases h : s.val < 16
  · rw [dif_pos h]
    have hn : (ix2 s l : S1040x2048.Idx) ∉ (Rect.unit (s := S1040x2048) ![16, 0] S1024x2048.size inb_S1040x2048_S1024x2048_16_0).set := by
      rw [Rect.mem_set_unit]
      intro hh
      have h0 : 16 ≤ s.val := (hh 0).1
      omega
    have he : (Rect.unit (s := S1040x2048) ![0, 0] S16x2048.size inb_S1040x2048_S16x2048_0_0).emb (ix2 ⟨s.val, h⟩ l : S16x2048.Idx) = ix2 s l := by
      funext a
      refine Fin.ext ?_
      match a with
      | ⟨0, _⟩ => show 0 + 1 * s.val = s.val; omega
      | ⟨1, _⟩ => show 0 + 1 * l.val = l.val; omega
    refine (View.canon_cons_of_not_mem (⟨Rect.unit (s := S1040x2048) ![16, 0] S1024x2048.size inb_S1040x2048_S1024x2048_16_0,
      k0_pay3 (F := Ideal) x0⟩ : View.Piece (Elt Ideal) S1040x2048 .bf16) _ hn).trans ?_
    have hc := View.canon_cons_emb (Val := Elt Ideal) (e := .bf16) (Rect.unit (s := S1040x2048) ![0, 0] S16x2048.size inb_S1040x2048_S16x2048_0_0)
      (k0_pay2 (F := Ideal) i x1) [] (ix2 ⟨s.val, h⟩ l : S16x2048.Idx)
    rw [he] at hc
    exact hc.trans (pay2_apply i x1 ⟨s.val, h⟩ l)
  · rw [dif_neg h]
    have he : (Rect.unit (s := S1040x2048) ![16, 0] S1024x2048.size inb_S1040x2048_S1024x2048_16_0).emb (ix2 ⟨s.val - 16, by omega⟩ l : S1024x2048.Idx) = ix2 s l := by
      funext a
      refine Fin.ext ?_
      match a with
      | ⟨0, _⟩ => show 16 + 1 * (s.val - 16) = s.val; omega
      | ⟨1, _⟩ => show 0 + 1 * l.val = l.val; omega
    have hc := View.canon_cons_emb (Val := Elt Ideal) (e := .bf16) (Rect.unit (s := S1040x2048) ![16, 0] S1024x2048.size inb_S1040x2048_S1024x2048_16_0)
      (k0_pay3 (F := Ideal) x0) [⟨Rect.unit (s := S1040x2048) ![0, 0] S16x2048.size inb_S1040x2048_S16x2048_0_0, k0_pay2 (F := Ideal) i x1⟩]
      (ix2 ⟨s.val - 16, by omega⟩ l : S1024x2048.Idx)
    rw [he] at hc
    exact hc.trans (congrFun (pay3_eq x0) _)

/-- A result block at an index, over the kept rows of row block `a`. -/
theorem out_apply (x : (⟨2, ![32768, 2048]⟩ : Shape).Idx → EReal) (w : (⟨2, ![2048, 11264]⟩ : Shape).Idx → EReal)
    (cw : (⟨2, ![3, 11264]⟩ : Shape).Idx → EReal) (b : (⟨1, ![11264]⟩ : Shape).Idx → EReal) (a : Fin 32) (r : Fin 1024) (j : Fin 512)
    (qv qg : Fin 11264) (x2 x3 : Vec Ideal S2048x512 .bf16) (x4 x5 : Vec Ideal S3x512 .f32) (x6 x7 : Vec Ideal S1x512 .f32)
    (h2 : ∀ l, x2 (ix2 l j) = w (ix2 l qv)) (h3 : ∀ l, x3 (ix2 l j) = w (ix2 l qg)) (h4 : ∀ k, x4 (ix2 k j) = cw (ix2 k qv))
    (h5 : ∀ k, x5 (ix2 k j) = cw (ix2 k qg)) (h6 : x6 (ix2 0 j) = b (ix1 qv)) (h7 : x7 (ix2 0 j) = b (ix1 qg)) :
    outOf (F := Ideal) (keptOf x a) x2 x3 x4 x5 x6 x7 (ix2 r j)
      = gated (convAt x w cw b ⟨a.val * 1024 + r.val, by omega⟩ qg) (convAt x w cw b ⟨a.val * 1024 + r.val, by omega⟩ qv) := by
  have t0 : ∀ v : Vec Ideal S3x512 .f32, tap0 v (ix2 0 j) = v (ix2 0 j) := fun v =>
    View.ld_unit_apply_of v _ _ _ _ _ fun d => by
      match d with
      | ⟨0, _⟩ => rfl
      | ⟨1, _⟩ => show j.val = 0 + j.val; omega
  have t1 : ∀ v : Vec Ideal S3x512 .f32, tap1 v (ix2 0 j) = v (ix2 1 j) := fun v =>
    View.ld_unit_apply_of v _ _ _ _ _ fun d => by
      match d with
      | ⟨0, _⟩ => rfl
      | ⟨1, _⟩ => show j.val = 0 + j.val; omega
  have t2 : ∀ v : Vec Ideal S3x512 .f32, tap2 v (ix2 0 j) = v (ix2 2 j) := fun v =>
    View.ld_unit_apply_of v _ _ _ _ _ fun d => by
      match d with
      | ⟨0, _⟩ => rfl
      | ⟨1, _⟩ => show j.val = 0 + j.val; omega
  unfold outOf
  rw [pay1_apply, pay6_apply _ _ _ _ _ _ (by show 2 ≤ 16 + r.val; omega), pay6_apply _ _ _ _ _ _ (by show 2 ≤ 16 + r.val; omega)]
  rw [pay4_apply, pay4_apply, pay4_apply, pay5_apply, pay5_apply, pay5_apply, t0, t0, t1, t1, t2, t2, h4, h4, h4, h5, h5, h5, h6, h7]
  rw [convAt, convAt, conv3, conv3, ← dot_kept x w a r 0 (by omega) x3 j qg h3, ← dot_kept x w a r 1 (by omega) x3 j qg h3,
    ← dot_kept x w a r 2 (by omega) x3 j qg h3, ← dot_kept x w a r 0 (by omega) x2 j qv h2, ← dot_kept x w a r 1 (by omega) x2 j qv h2,
    ← dot_kept x w a r 2 (by omega) x2 j qv h2]
  rfl

/-! ## The blocks of the arrays -/

variable (m : (ℓ : Loc nD τ sig) → Buf (Elt Ideal) ℓ) (ρ : Dev nD → PrngReg)

theorem idx_facts : ∀ t : Fin cfg0.N, (win0_0.index t 0 = t.val / 11 ∧ win0_0.index t 1 = 0)
    ∧ (win0_1.index t 0 = 64 * (t.val / 11) - 1 ∧ win0_1.index t 1 = 0) ∧ (win0_2.index t 0 = 0 ∧ win0_2.index t 1 = t.val % 11)
    ∧ (win0_3.index t 0 = 0 ∧ win0_3.index t 1 = 11 + t.val % 11) ∧ (win0_4.index t 0 = 0 ∧ win0_4.index t 1 = t.val % 11)
    ∧ (win0_5.index t 0 = 0 ∧ win0_5.index t 1 = 11 + t.val % 11) ∧ (win0_6.index t 0 = 0 ∧ win0_6.index t 1 = t.val % 11)
    ∧ (win0_7.index t 0 = 0 ∧ win0_7.index t 1 = 11 + t.val % 11)
    ∧ (win0_8.index t 0 = t.val / 11 ∧ win0_8.index t 1 = t.val % 11) ∧ (grid0.coords t 0).val = t.val / 11 :=
  (by decide +kernel : ∀ t : Fin grid0.N, _)

theorem lt_352 (t : Fin cfg0.N) : t.val < 352 := t.isLt

/-- The row block of a point, and the columns of its two halves. -/
def rb (t : Fin cfg0.N) : Fin 32 := ⟨t.val / 11, by have := lt_352 t; omega⟩
def colV (t : Fin cfg0.N) (j : Fin 512) : Fin 11264 := ⟨t.val % 11 * 512 + j.val, by omega⟩
def colG (t : Fin cfg0.N) (j : Fin 512) : Fin 11264 := ⟨5632 + (t.val % 11 * 512 + j.val), by omega⟩

theorem V_v0 (c : Dev nD) : (V m c main_v0 : S2048x11264.Idx → EReal) = m ((c : Thread nD τ).loc main_arg1) := by
  unfold_abbrev_sides
  after_results
  rfl

theorem V_v1 (c : Dev nD) (j : Fin 11264) :
    (V m c main_v1 : S1x11264.Idx → EReal) (ix2 0 j) = m ((c : Thread nD τ).loc main_arg3) (ix1 j) := by
  unfold_abbrev_sides
  after_results
  pointwise

theorem blk0 (c : Dev nD) (t : Fin cfg0.N) (r : Fin 1024) (l : Fin 2048) :
    iblk m c 0 t (ix2 r l) = m ((c : Thread nD τ).loc main_arg0) (ix2 (⟨(rb t).val * 1024 + r.val, by omega⟩ : Fin 32768) l) := by
  rw [← V_main_arg0 m c]
  have e := (idx_facts t).1
  refine congrArg (V m c main_arg0) (funext fun a => Fin.ext ?_)
  match a with
  | ⟨0, _⟩ => show win0_0.index t 0 * 1024 + 1 * r.val = t.val / 11 * 1024 + r.val; omega
  | ⟨1, _⟩ => show win0_0.index t 1 * 2048 + 1 * l.val = l.val; omega

theorem blk1 (c : Dev nD) (t : Fin cfg0.N) (s : Fin 16) (l : Fin 2048) (h : t.val / 11 ≠ 0) :
    iblk m c 1 t (ix2 s l) = m ((c : Thread nD τ).loc main_arg0) (ix2 (⟨(rb t).val * 1024 - 16 + s.val, by omega⟩ : Fin 32768) l) := by
  rw [← V_main_arg0 m c]
  have e := (idx_facts t).2.1
  refine congrArg (V m c main_arg0) (funext fun a => Fin.ext ?_)
  match a with
  | ⟨0, _⟩ => show win0_1.index t 0 * 16 + 1 * s.val = t.val / 11 * 1024 - 16 + s.val; omega
  | ⟨1, _⟩ => show win0_1.index t 1 * 2048 + 1 * l.val = l.val; omega

theorem blk2 (c : Dev nD) (t : Fin cfg0.N) (l : Fin 2048) (j : Fin 512) :
    iblk m c 2 t (ix2 l j) = m ((c : Thread nD τ).loc main_arg1) (ix2 l (colV t j)) := by
  have e := (idx_facts t).2.2.1
  refine (congrArg (V m c main_v0) (funext fun a => Fin.ext ?_) : iblk m c 2 t (ix2 l j) = V m c main_v0 (ix2 l (colV t j))).trans ?_
  · match a with
    | ⟨0, _⟩ => show win0_2.index t 0 * 2048 + 1 * l.val = l.val; omega
    | ⟨1, _⟩ => show win0_2.index t 1 * 512 + 1 * j.val = t.val % 11 * 512 + j.val; omega
  · exact congrFun (V_v0 m c) _

theorem blk3 (c : Dev nD) (t : Fin cfg0.N) (l : Fin 2048) (j : Fin 512) :
    iblk m c 3 t (ix2 l j) = m ((c : Thread nD τ).loc main_arg1) (ix2 l (colG t j)) := by
  have e := (idx_facts t).2.2.2.1
  refine (congrArg (V m c main_v0) (funext fun a => Fin.ext ?_) : iblk m c 3 t (ix2 l j) = V m c main_v0 (ix2 l (colG t j))).trans ?_
  · match a with
    | ⟨0, _⟩ => show win0_3.index t 0 * 2048 + 1 * l.val = l.val; omega
    | ⟨1, _⟩ => show win0_3.index t 1 * 512 + 1 * j.val = 5632 + (t.val % 11 * 512 + j.val); omega
  · exact congrFun (V_v0 m c) _

theorem blk4 (c : Dev nD) (t : Fin cfg0.N) (k : Fin 3) (j : Fin 512) :
    iblk m c 4 t (ix2 k j) = m ((c : Thread nD τ).loc main_arg2) (ix2 k (colV t j)) := by
  rw [← V_main_arg2 m c]
  have e := (idx_facts t).2.2.2.2.1
  refine congrArg (V m c main_arg2) (funext fun a => Fin.ext ?_)
  match a with
  | ⟨0, _⟩ => show win0_4.index t 0 * 3 + 1 * k.val = k.val; omega
  | ⟨1, _⟩ => show win0_4.index t 1 * 512 + 1 * j.val = t.val % 11 * 512 + j.val; omega

theorem blk5 (c : Dev nD) (t : Fin cfg0.N) (k : Fin 3) (j : Fin 512) :
    iblk m c 5 t (ix2 k j) = m ((c : Thread nD τ).loc main_arg2) (ix2 k (colG t j)) := by
  rw [← V_main_arg2 m c]
  have e := (idx_facts t).2.2.2.2.2.1
  refine congrArg (V m c main_arg2) (funext fun a => Fin.ext ?_)
  match a with
  | ⟨0, _⟩ => show win0_5.index t 0 * 3 + 1 * k.val = k.val; omega
  | ⟨1, _⟩ => show win0_5.index t 1 * 512 + 1 * j.val = 5632 + (t.val % 11 * 512 + j.val); omega

theorem blk6 (c : Dev nD) (t : Fin cfg0.N) (j : Fin 512) :
    iblk m c 6 t (ix2 0 j) = m ((c : Thread nD τ).loc main_arg3) (ix1 (colV t j)) := by
  have e := (idx_facts t).2.2.2.2.2.2.1
  refine (congrArg (V m c main_v1) (funext fun a => Fin.ext ?_) : iblk m c 6 t (ix2 0 j) = V m c main_v1 (ix2 0 (colV t j))).trans ?_
  · match a with
    | ⟨0, _⟩ => show win0_6.index t 0 * 1 + 1 * 0 = 0; omega
    | ⟨1, _⟩ => show win0_6.index t 1 * 512 + 1 * j.val = t.val % 11 * 512 + j.val; omega
  · exact V_v1 m c _

theorem blk7 (c : Dev nD) (t : Fin cfg0.N) (j : Fin 512) :
    iblk m c 7 t (ix2 0 j) = m ((c : Thread nD τ).loc main_arg3) (ix1 (colG t j)) := by
  have e := (idx_facts t).2.2.2.2.2.2.2.1
  refine (congrArg (V m c main_v1) (funext fun a => Fin.ext ?_) : iblk m c 7 t (ix2 0 j) = V m c main_v1 (ix2 0 (colG t j))).trans ?_
  · match a with
    | ⟨0, _⟩ => show win0_7.index t 0 * 1 + 1 * 0 = 0; omega
    | ⟨1, _⟩ => show win0_7.index t 1 * 512 + 1 * j.val = 5632 + (t.val % 11 * 512 + j.val); omega
  · exact V_v1 m c _

/-! ## The points -/

/-- The rows made at a point are the row block's. -/
theorem lhs_eq (c : Dev nD) (t : Fin cfg0.N) :
    lhsOf (F := Ideal) (grid0.coords t) (iblk m c 0 t) (iblk m c 1 t) = keptOf (m ((c : Thread nD τ).loc main_arg0)) (rb t) := by
  funext y
  obtain ⟨s, l, rfl⟩ : ∃ (s : Fin 1040) (l : Fin 2048), y = ix2 s l := ⟨y 0, y 1, eq_ix2 y⟩
  have ec : (grid0.coords t 0).val = (rb t).val := (idx_facts t).2.2.2.2.2.2.2.2.2
  rw [lhs_apply, ec, kept_apply]
  by_cases h : s.val < 16
  · rw [dif_pos h, if_pos h]
    by_cases hz : (rb t).val % 8 = 0
    · rw [if_pos hz, mul_zero, mul_zero]
    · rw [blk1 m c t _ _ (by intro h0; apply hz; show t.val / 11 % 8 = 0; omega)]
  · rw [dif_neg h, if_neg h]
    exact blk0 m c t _ _

/-- What is kept after every point: its row block's rows. -/
theorem kept_eq (c : Dev nD) : ∀ (n : ℕ) (h : n < cfg0.N),
    (outsAt0 m c n h).2 = keptOf (m ((c : Thread nD τ).loc main_arg0)) (rb ⟨n, h⟩) := by
  intro n
  induction n with
  | zero =>
    intro h
    rw [outsAt0_A m c ⟨0, h⟩ rfl]
    dsimp only
    rw [sout_A]
    exact lhs_eq m c ⟨0, h⟩
  | succ n ih =>
    intro h
    by_cases h0 : (n + 1) % 11 = 0
    · rw [outsAt0_A m c ⟨n + 1, h⟩ h0]
      dsimp only
      rw [sout_A]
      exact lhs_eq m c ⟨n + 1, h⟩
    · rw [outsAt0_B m c ⟨n + 1, h⟩ h0]
      dsimp only
      refine (ih (Nat.lt_of_succ_lt h)).trans (congrArg _ (Fin.ext ?_))
      show n / 11 = (n + 1) / 11
      omega

/-- What every point leaves in the result block. -/
theorem after_eq (c : Dev nD) (t : Fin cfg0.N) :
    (outsAt0 m c t.val t.isLt).1 = outOf (F := Ideal) (keptOf (m ((c : Thread nD τ).loc main_arg0)) (rb t)) (iblk m c 2 t) (iblk m c 3 t)
      (iblk m c 4 t) (iblk m c 5 t) (iblk m c 6 t) (iblk m c 7 t) := by
  by_cases h0 : t.val % 11 = 0
  · rw [outsAt0_A m c t h0]
    dsimp only
    rw [out_A, lhs_eq]
  · rw [outsAt0_B m c t h0]
    dsimp only
    rw [out_B, kept_eq]
    refine congrArg (fun a => outOf (F := Ideal) (keptOf (m ((c : Thread nD τ).loc main_arg0)) a) _ _ _ _ _ _) (Fin.ext ?_)
    show (t.val - 1) / 11 = t.val / 11
    omega

/-- What a point writes back is its block of the whole result. -/
theorem flushed_eq (c : Dev nD) (t : Fin cfg0.N) :
    (dats m 0 c).flushed 8 t = ((cfg0.win 8).blk t).view.read (Elt Ideal)
      (G (m ((c : Thread nD τ).loc main_arg0)) (m ((c : Thread nD τ).loc main_arg1)) (m ((c : Thread nD τ).loc main_arg2))
        (m ((c : Thread nD τ).loc main_arg3))) := by
  rw [Value.flushed8, after_eq]
  have e := (idx_facts t).2.2.2.2.2.2.2.2.1
  refine funext fun y => ?_
  obtain ⟨r, j, rfl⟩ : ∃ (r : Fin 1024) (j : Fin 512), y = ix2 r j := ⟨y 0, y 1, eq_ix2 y⟩
  have he : ((cfg0.win 8).blk t).view.emb (ix2 r j)
      = (ix2 (⟨(rb t).val * 1024 + r.val, by omega⟩ : Fin 32768) (⟨t.val % 11 * 512 + j.val, by omega⟩ : Fin 5632) : S32768x5632.Idx) := by
    funext a
    refine Fin.ext ?_
    match a with
    | ⟨0, _⟩ => show win0_8.index t 0 * 1024 + 1 * r.val = t.val / 11 * 1024 + r.val; omega
    | ⟨1, _⟩ => show win0_8.index t 1 * 512 + 1 * j.val = t.val % 11 * 512 + j.val; omega
  show outOf (F := Ideal) _ _ _ _ _ _ _ (ix2 r j) = G _ _ _ _ (((cfg0.win 8).blk t).view.emb (ix2 r j))
  rw [he]
  exact out_apply _ _ _ _ (rb t) r j (colV t j) (colG t j) _ _ _ _ _ _ (fun l => blk2 m c t l j) (fun l => blk3 m c t l j)
    (fun k => blk4 m c t k j) (fun k => blk5 m c t k j) (blk6 m c t j) (blk7 m c t j)

/-- The call's run, with the result array at its function of the arguments, and the arguments unchanged. -/
theorem run : θ_run defs (onTc (τ := τ) (main (F := Ideal))) ⟨m, fun _ => 0, ρ⟩ fun r => ∀ c : Dev nD,
      r.2.mem ((c : Thread nD τ).loc main_v2)
        = G (m ((c : Thread nD τ).loc main_arg0)) (m ((c : Thread nD τ).loc main_arg1)) (m ((c : Thread nD τ).loc main_arg2))
        (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans
      ((dats m 0 c).arrAt_eq_of_cover 8 _ (fun t _ => flushed_eq m c t) (fun i => (Value.covered_iff8 i).2
        ⟨Nat.zero_le _, (i 0).isLt, Nat.zero_le _, (i 1).isLt⟩)), (h c).2⟩) (Value.run_blocks m ρ)

end Cert.Up

end
-- ==== Proof.Up.Ref.lean ====
/- The up projection's reference, read at an index. -/
module

public import proofs.«01_k».proof.Proof.Up.Math
public import proofs.«01_k».proof.Proof.Gen.Reference3Ideal.Read

@[expose] public section

set_option maxRecDepth 16384

noncomputable section

namespace Cert.Up

open Idealize.ShloMosaic Idealize.ShloMosaic.TcCoe Idealize.SL.Sem
open Cert.Reference3Ideal Cert.Reference3Ideal.Read

variable (x : Vec Ideal S32768x2048 .bf16) (w : Vec Ideal S2048x11264 .f32) (c : Vec Ideal S3x11264 .f32) (b : Vec Ideal S11264 .f32)

/-- The padded projection: two rows of zeros, then a sequence's rows. -/
theorem ref_pad (n : Fin 4) (s : Fin 8194) (q : Fin 11264) :
    val_main_v3 (F := Ideal) x w (ix3 n s q)
      = if h : 2 ≤ s.val then dotAt x w ⟨n.val * 8192 + (s.val - 2), by omega⟩ q else 0 := by
  pointwise [val_main_v3, val_main_v2, val_main_v1, val_main_v0, val_main_call0_v0, val_main_c, dotAt]
  have hz : (FloatOps.sitofp .f32 0#32 : Ideal .f32) = (0 : EReal) := by
    show (((0#32 : BitVec 32).toInt : ℝ) : EReal) = 0
    simp
  by_cases h : 2 ≤ s.val
  · rw [dif_pos ⟨h, by omega⟩, dif_pos h]
  · rw [dif_neg (fun hh => h hh.1), dif_neg h, hz]

theorem ref_before (k : ℕ) (hk : k ≤ 2) (n : Fin 4) (s : Fin 8192) (q : Fin 11264) :
    val_main_v3 (F := Ideal) x w (ix3 n ⟨2 - k + s.val, by omega⟩ q) = before x w k ⟨n.val * 8192 + s.val, by omega⟩ q := by
  rw [ref_pad, before]
  have e : (n.val * 8192 + s.val) % 8192 = s.val := by omega
  by_cases h : k ≤ s.val
  · rw [dif_pos (by show 2 ≤ 2 - k + s.val; omega), if_pos (by show k ≤ (n.val * 8192 + s.val) % 8192; omega)]
    refine congrArg (fun i => dotAt x w i q) (Fin.ext ?_)
    show n.val * 8192 + (2 - k + s.val - 2) = n.val * 8192 + s.val - k
    omega
  · rw [dif_neg (by show ¬2 ≤ 2 - k + s.val; omega), if_neg (by show ¬k ≤ (n.val * 8192 + s.val) % 8192; omega)]

theorem ref_conv (n : Fin 4) (s : Fin 8192) (q : Fin 11264) :
    val_main_v26 (F := Ideal) x w c b (ix3 n s q) = convAt x w c b ⟨n.val * 8192 + s.val, by omega⟩ q := by
  rw [convAt, ← ref_before x w 0 (by omega), ← ref_before x w 1 (by omega), ← ref_before x w 2 (by omega), conv3]
  rw [add_comm (c (ix2 2 q) * _), add_comm (c (ix2 1 q) * _)]
  pointwise [val_main_v26, val_main_v25, val_main_v24, val_main_v23, val_main_v22, val_main_v21, val_main_v20, val_main_v19, val_main_v18,
    val_main_v17, val_main_v16, val_main_v15, val_main_v14, val_main_v13, val_main_v12, val_main_v11, val_main_v10, val_main_v9,
    val_main_v8, val_main_v7, val_main_v6, val_main_v5, val_main_v4]

/-- The reference is the function `G`. -/
theorem ref_eq : val_main_v32 (F := Ideal) x w c b = G x w c b := by
  funext i
  obtain ⟨p, j, rfl⟩ : ∃ (p : Fin 32768) (j : Fin 5632), i = ix2 p j := ⟨i 0, i 1, eq_ix2 i⟩
  have hp : p = ⟨(⟨p.val / 8192, by omega⟩ : Fin 4).val * 8192 + (⟨p.val % 8192, by omega⟩ : Fin 8192).val, by show p.val / 8192 * 8192 + p.val % 8192 < 32768; omega⟩ :=
    Fin.ext (by show p.val = p.val / 8192 * 8192 + p.val % 8192; omega)
  show _ = gated (convAt x w c b p ⟨5632 + j.val, by omega⟩) (convAt x w c b p ⟨j.val, by omega⟩)
  rw [hp, ← ref_conv, ← ref_conv, gated, ← div_eq_mul, ← hp]
  pointwise [val_main_v32, val_main_v31, val_main_v30, val_main_v29, val_main_v28, val_main_v27, val_main_call1_v5, val_main_call1_v4,
    val_main_call1_v3, val_main_call1_v2, val_main_call1_v1, val_main_call1_v0, val_main_call1_cst, val_main_call1_cst_0]

end Cert.Up

end
-- ==== Proof.Outp.Value.lean ====
/- The output projection with its residual and layer norm: both result arrays as one function of the argument arrays. -/
module

public import proofs.«01_k».proof.Proof.Gen.Kernel4Ideal.Value
public import proofs.«01_k».proof.Proof.Gen.Reference4Ideal.Read
public import proofs.«01_k».proof.Proof.Down.Value

@[expose] public section

set_option maxRecDepth 16384

noncomputable section

namespace Cert.Outp

open Idealize.ShloMosaic Idealize.ShloMosaic.TcCoe Idealize.SL.Sem
open Cert.Down (lnAt)

/-- The row before its norm: the residual scaled, plus the two heads' rows times the upper and the lower half of the weights. -/
def rowAt {R : ℕ} (u v : (⟨2, ![R, 1024]⟩ : Shape).Idx → EReal) (w : (⟨2, ![2048, 2048]⟩ : Shape).Idx → EReal)
    (r : (⟨2, ![R, 2048]⟩ : Shape).Idx → EReal) (i : Fin R) (j : Fin 2048) : EReal :=
  Ideal.ofBits .f32 0x3F9837F0#32 * r (ix2 i j) + (∑ l : Fin 1024, u (ix2 i l) * w (ix2 (⟨l.val, by omega⟩ : Fin 2048) j)
    + ∑ l : Fin 1024, v (ix2 i l) * w (ix2 (⟨1024 + l.val, by omega⟩ : Fin 2048) j))

/-- The same, of the two halves of the weights taken apart. -/
def rowAt2 {R : ℕ} (u v : (⟨2, ![R, 1024]⟩ : Shape).Idx → EReal) (wu wv : (⟨2, ![1024, 2048]⟩ : Shape).Idx → EReal)
    (r : (⟨2, ![R, 2048]⟩ : Shape).Idx → EReal) (i : Fin R) (j : Fin 2048) : EReal :=
  Ideal.ofBits .f32 0x3F9837F0#32 * r (ix2 i j) + (∑ l : Fin 1024, u (ix2 i l) * wu (ix2 l j)
    + ∑ l : Fin 1024, v (ix2 i l) * wv (ix2 l j))

open Cert.Kernel4Ideal Cert.Kernel4Ideal.Gen

section Payload

variable (u v : FVec Ideal S128x1024 .bf16) (wu wv : FVec Ideal S1024x2048 .bf16) (r : FVec Ideal S128x2048 .f32)
    (g b : FVec Ideal S1x2048 .f32) (i : Fin 128) (j : Fin 2048)

/-! The four groups of 128 rows are computed by one function, printed four times, each kept at both widths. -/

theorem pay3_apply : k0_pay3 (F := Ideal) u wu v wv r g b (ix2 i j) = lnAt (rowAt2 u v wu wv r i) (g (ix2 0 j)) (b (ix2 0 j)) j := by
  pointwise [k0_pay3, lnAt, rowAt2]

theorem pay10_eq : k0_pay10 (F := Ideal) (k0_pay5 g) (k0_pay6 b) (k0_pay7 u wu v wv r) (k0_pay8 u wu v wv r) k0_pay9
    = k0_pay3 u wu v wv r g b := rfl

theorem pay16_eq : k0_pay16 (F := Ideal) (k0_pay12 g) (k0_pay13 b) (k0_pay14 u wu v wv r) (k0_pay15 u wu v wv r)
    = k0_pay3 u wu v wv r g b := rfl

theorem pay1_eq : k0_pay1 (F := Ideal) (k0_pay18 u wu v wv r) (k0_pay19 g) (k0_pay20 b) = k0_pay3 u wu v wv r g b := rfl

theorem pay4_eq (y : FVec Ideal S128x2048 .f32) : (k0_pay4 (F := Ideal) y : S128x2048.Idx → EReal) = y := rfl

theorem pay11_eq : (k0_pay11 (F := Ideal) (k0_pay5 g) (k0_pay6 b) (k0_pay7 u wu v wv r) (k0_pay8 u wu v wv r) k0_pay9
    : S128x2048.Idx → EReal) = k0_pay3 (F := Ideal) u wu v wv r g b := rfl

theorem pay17_eq : (k0_pay17 (F := Ideal) (k0_pay12 g) (k0_pay13 b) (k0_pay14 u wu v wv r) (k0_pay15 u wu v wv r)
    : S128x2048.Idx → EReal) = k0_pay3 (F := Ideal) u wu v wv r g b := rfl

theorem pay2_eq : (k0_pay2 (F := Ideal) (k0_pay18 u wu v wv r) (k0_pay19 g) (k0_pay20 b) : S128x2048.Idx → EReal)
    = k0_pay3 (F := Ideal) u wu v wv r g b := rfl

end Payload

/-- Rows of the norm are equal where the data they are made of are. -/
theorem lnAt_congr {f f' : Fin 2048 → EReal} {g g' b b' : EReal} {j : Fin 2048} (hf : ∀ k, f k = f' k) (hg : g = g') (hb : b = b') :
    lnAt f g b j = lnAt f' g' b' j := by
  obtain rfl : f = f' := funext hf
  rw [hg, hb]

theorem rowAt2_eq {R R' : ℕ} {u v : (⟨2, ![R, 1024]⟩ : Shape).Idx → EReal} {wu wv : (⟨2, ![1024, 2048]⟩ : Shape).Idx → EReal}
    {r : (⟨2, ![R, 2048]⟩ : Shape).Idx → EReal} {u' v' : (⟨2, ![R', 1024]⟩ : Shape).Idx → EReal}
    {w : (⟨2, ![2048, 2048]⟩ : Shape).Idx → EReal} {r' : (⟨2, ![R', 2048]⟩ : Shape).Idx → EReal} {i : Fin R} {i' : Fin R'} {j : Fin 2048}
    (hu : ∀ l, u (ix2 i l) = u' (ix2 i' l)) (hv : ∀ l, v (ix2 i l) = v' (ix2 i' l))
    (hwu : ∀ l : Fin 1024, wu (ix2 l j) = w (ix2 (⟨l.val, by omega⟩ : Fin 2048) j))
    (hwv : ∀ l : Fin 1024, wv (ix2 l j) = w (ix2 (⟨1024 + l.val, by omega⟩ : Fin 2048) j)) (hr : r (ix2 i j) = r' (ix2 i' j)) :
    rowAt2 u v wu wv r i j = rowAt u' v' w r' i' j := by
  simp only [rowAt, rowAt2, hu, hv, hwu, hwv, hr]

/-- One group of 128 rows, starting at row `o` of the block. -/
theorem group_apply (o : ℕ) (inbx : ∀ a, (![o, 0] : Fin 2 → ℕ) a + S128x1024.size a ≤ S512x1024.size a)
    (inbr : ∀ a, (![o, 0] : Fin 2 → ℕ) a + S128x2048.size a ≤ S512x2048.size a)
    (u v : Vec Ideal S512x1024 .bf16) (w : Vec Ideal S2048x2048 .bf16) (r : Vec Ideal S512x2048 .f32)
    (g b : Vec Ideal S1x2048 .f32) (i : Fin 512) (j : Fin 2048) (y : S128x2048.Idx) (h0 : i.val = o + (y 0).val)
    (h1 : j.val = (y 1).val) :
    k0_pay3 (F := Ideal) (View.ld u (Rect.unit (s := S512x1024) ![o, 0] S128x1024.size inbx)) (View.ld w r0_1)
      (View.ld v (Rect.unit (s := S512x1024) ![o, 0] S128x1024.size inbx)) (View.ld w r0_2)
      (View.ld r (Rect.unit (s := S512x2048) ![o, 0] S128x2048.size inbr)) (View.ld g r0_4) (View.ld b r0_4) y
    = lnAt (rowAt u v w r i) (g (ix2 0 j)) (b (ix2 0 j)) j := by
  obtain ⟨y0, y1, rfl⟩ : ∃ (y0 : Fin 128) (y1 : Fin 2048), y = ix2 y0 y1 := ⟨y 0, y 1, eq_ix2 y⟩
  have hgb : ∀ v : Vec Ideal S1x2048 .f32, View.ld v r0_4 = v := fun v => View.ld_unit_zero (by funext a; fin_cases a <;> rfl) _ _
  obtain rfl : y1 = j := Fin.ext h1.symm
  have hu : ∀ (z : Vec Ideal S512x1024 .bf16) (l : Fin 1024),
      View.ld z (Rect.unit (s := S512x1024) ![o, 0] S128x1024.size inbx) (ix2 y0 l) = z (ix2 i l) := fun z l =>
    View.ld_unit_apply_of z _ _ inbx _ _ fun a => by
      match a with
      | ⟨0, _⟩ => exact h0
      | ⟨1, _⟩ => show l.val = 0 + l.val; omega
  have hr : ∀ l : Fin 2048, View.ld r (Rect.unit (s := S512x2048) ![o, 0] S128x2048.size inbr) (ix2 y0 l) = r (ix2 i l) := fun l =>
    View.ld_unit_apply_of r _ _ inbr _ _ fun a => by
      match a with
      | ⟨0, _⟩ => exact h0
      | ⟨1, _⟩ => show l.val = 0 + l.val; omega
  have hw1 : ∀ (l : Fin 1024) (k : Fin 2048), View.ld w r0_1 (ix2 l k) = w (ix2 (⟨l.val, by omega⟩ : Fin 2048) k) := fun l k =>
    View.ld_unit_apply_of w _ _ _ _ _ fun a => by
      match a with
      | ⟨0, _⟩ => show l.val = 0 + l.val; omega
      | ⟨1, _⟩ => show k.val = 0 + k.val; omega
  have hw2 : ∀ (l : Fin 1024) (k : Fin 2048), View.ld w r0_2 (ix2 l k) = w (ix2 (⟨1024 + l.val, by omega⟩ : Fin 2048) k) := fun l k =>
    View.ld_unit_apply_of w _ _ _ _ _ fun a => by
      match a with
      | ⟨0, _⟩ => rfl
      | ⟨1, _⟩ => show k.val = 0 + k.val; omega
  rw [hgb, hgb, pay3_apply]
  refine lnAt_congr (fun k => ?_) rfl rfl
  exact rowAt2_eq (hu u) (hu v) (fun l => hw1 l k) (fun l => hw2 l k) (hr k)

/-- The block a grid point leaves: each of its 512 rows is the norm of its own row. -/
theorem out6_apply (u v : Vec Ideal S512x1024 .bf16) (w : Vec Ideal S2048x2048 .bf16) (r : Vec Ideal S512x2048 .f32)
    (g b : Vec Ideal S1x2048 .f32) (i : Fin 512) (j : Fin 2048) :
    out0_6 (F := Ideal) u v w r g b (ix2 i j) = lnAt (rowAt u v w r i) (g (ix2 0 j)) (b (ix2 0 j)) j := by
  unfold_out out0_6
  rw [pay1_eq, pay16_eq, pay10_eq]
  canon_tiles y h using cover0_6 ..
  · exact group_apply 384 _ _ u v w r g b i j y h0 h1
  · exact group_apply 256 _ _ u v w r g b i j y h0 h1
  · exact group_apply 128 _ _ u v w r g b i j y h0 h1
  · exact group_apply 0 _ _ u v w r g b i j y (h0.trans (Nat.zero_add _).symm) h1

theorem out7_apply (u v : Vec Ideal S512x1024 .bf16) (w : Vec Ideal S2048x2048 .bf16) (r : Vec Ideal S512x2048 .f32)
    (g b : Vec Ideal S1x2048 .f32) (i : Fin 512) (j : Fin 2048) :
    out0_7 (F := Ideal) u v w r g b (ix2 i j) = lnAt (rowAt u v w r i) (g (ix2 0 j)) (b (ix2 0 j)) j := by
  unfold_out out0_7
  canon_tiles y h using cover0_7 ..
  · exact (congrFun (pay2_eq ..) y).trans (group_apply 384 _ _ u v w r g b i j y h0 h1)
  · exact (congrFun (pay17_eq ..) y).trans (group_apply 256 _ _ u v w r g b i j y h0 h1)
  · exact (congrFun (pay11_eq ..) y).trans (group_apply 128 _ _ u v w r g b i j y h0 h1)
  · exact (congrFun (pay4_eq ..) y).trans (group_apply 0 _ _ u v w r g b i j y (h0.trans (Nat.zero_add _).symm) h1)

/-- The whole result, at either width: every row of the array is the norm of its own row. -/
def G (u v : (⟨2, ![32768, 1024]⟩ : Shape).Idx → EReal) (w : (⟨2, ![2048, 2048]⟩ : Shape).Idx → EReal)
    (r : (⟨2, ![32768, 2048]⟩ : Shape).Idx → EReal) (g b : (⟨1, ![2048]⟩ : Shape).Idx → EReal) :
    (⟨2, ![32768, 2048]⟩ : Shape).Idx → EReal :=
  fun i => lnAt (rowAt u v w r (i 0)) (g (ix1 (i 1))) (b (ix1 (i 1))) (i 1)

variable (m : (ℓ : Loc nD τ sig) → Buf (Elt Ideal) ℓ) (ρ : Dev nD → PrngReg)

theorem idx_facts : ∀ t : Fin cfg0.N, (win0_0.index t 0 = t.val ∧ win0_0.index t 1 = 0)
    ∧ (win0_1.index t 0 = t.val ∧ win0_1.index t 1 = 0) ∧ (win0_2.index t 0 = 0 ∧ win0_2.index t 1 = 0)
    ∧ (win0_3.index t 0 = t.val ∧ win0_3.index t 1 = 0) ∧ (win0_4.index t 0 = 0 ∧ win0_4.index t 1 = 0)
    ∧ (win0_5.index t 0 = 0 ∧ win0_5.index t 1 = 0) ∧ (win0_6.index t 0 = t.val ∧ win0_6.index t 1 = 0)
    ∧ (win0_7.index t 0 = t.val ∧ win0_7.index t 1 = 0) :=
  (by decide +kernel : ∀ t : Fin grid0.N, _)

/-- Row `i` of the blocks at point `t` is this row of the arrays. -/
def row (t : Fin cfg0.N) (i : Fin 512) : Fin 32768 :=
  ⟨t.val * 512 + i.val, by have h : t.val < 64 := t.isLt; omega⟩

theorem blk0 (c : Dev nD) (t : Fin cfg0.N) (i : Fin 512) (l : Fin 1024) :
    iblk m c 0 t (ix2 i l) = m ((c : Thread nD τ).loc main_arg0) (ix2 (row t i) l) := by
  rw [← V_main_arg0 m c]
  have e := (idx_facts t).1
  refine congrArg (V m c main_arg0) (funext fun a => Fin.ext ?_)
  match a with
  | ⟨0, _⟩ => show win0_0.index t 0 * 512 + 1 * i.val = t.val * 512 + i.val; omega
  | ⟨1, _⟩ => show win0_0.index t 1 * 1024 + 1 * l.val = l.val; omega

theorem blk1 (c : Dev nD) (t : Fin cfg0.N) (i : Fin 512) (l : Fin 1024) :
    iblk m c 1 t (ix2 i l) = m ((c : Thread nD τ).loc main_arg1) (ix2 (row t i) l) := by
  rw [← V_main_arg1 m c]
  have e := (idx_facts t).2.1
  refine congrArg (V m c main_arg1) (funext fun a => Fin.ext ?_)
  match a with
  | ⟨0, _⟩ => show win0_1.index t 0 * 512 + 1 * i.val = t.val * 512 + i.val; omega
  | ⟨1, _⟩ => show win0_1.index t 1 * 1024 + 1 * l.val = l.val; omega

/-! The weights cast, and the two rows of the norm laid out, by the host before the call. -/

theorem V_v0 (c : Dev nD) : (V m c main_v0 : S2048x2048.Idx → EReal) = m ((c : Thread nD τ).loc main_arg2) := by
  unfold_abbrev_sides
  after_results
  rfl

theorem V_v1 (c : Dev nD) (j : Fin 2048) :
    (V m c main_v1 : S1x2048.Idx → EReal) (ix2 0 j) = m ((c : Thread nD τ).loc main_arg4) (ix1 j) := by
  unfold_abbrev_sides
  after_results
  pointwise

theorem V_v2 (c : Dev nD) (j : Fin 2048) :
    (V m c main_v2 : S1x2048.Idx → EReal) (ix2 0 j) = m ((c : Thread nD τ).loc main_arg5) (ix1 j) := by
  unfold_abbrev_sides
  after_results
  pointwise

theorem blk2 (c : Dev nD) (t : Fin cfg0.N) (l j : Fin 2048) :
    iblk m c 2 t (ix2 l j) = m ((c : Thread nD τ).loc main_arg2) (ix2 l j) := by
  have e := (idx_facts t).2.2.1
  refine (congrArg (V m c main_v0) (funext fun a => Fin.ext ?_) : iblk m c 2 t (ix2 l j) = V m c main_v0 (ix2 l j)).trans ?_
  · match a with
    | ⟨0, _⟩ => show win0_2.index t 0 * 2048 + 1 * l.val = l.val; omega
    | ⟨1, _⟩ => show win0_2.index t 1 * 2048 + 1 * j.val = j.val; omega
  · exact congrFun (V_v0 m c) _

theorem blk3 (c : Dev nD) (t : Fin cfg0.N) (i : Fin 512) (l : Fin 2048) :
    iblk m c 3 t (ix2 i l) = m ((c : Thread nD τ).loc main_arg3) (ix2 (row t i) l) := by
  rw [← V_main_arg3 m c]
  have e := (idx_facts t).2.2.2.1
  refine congrArg (V m c main_arg3) (funext fun a => Fin.ext ?_)
  match a with
  | ⟨0, _⟩ => show win0_3.index t 0 * 512 + 1 * i.val = t.val * 512 + i.val; omega
  | ⟨1, _⟩ => show win0_3.index t 1 * 2048 + 1 * l.val = l.val; omega

theorem blk4 (c : Dev nD) (t : Fin cfg0.N) (j : Fin 2048) :
    iblk m c 4 t (ix2 0 j) = m ((c : Thread nD τ).loc main_arg4) (ix1 j) := by
  have e := (idx_facts t).2.2.2.2.1
  refine (congrArg (V m c main_v1) (funext fun a => Fin.ext ?_) : iblk m c 4 t (ix2 0 j) = V m c main_v1 (ix2 0 j)).trans ?_
  · match a with
    | ⟨0, _⟩ => show win0_4.index t 0 * 1 + 1 * 0 = 0; omega
    | ⟨1, _⟩ => show win0_4.index t 1 * 2048 + 1 * j.val = j.val; omega
  · exact V_v1 m c j

theorem blk5 (c : Dev nD) (t : Fin cfg0.N) (j : Fin 2048) :
    iblk m c 5 t (ix2 0 j) = m ((c : Thread nD τ).loc main_arg5) (ix1 j) := by
  have e := (idx_facts t).2.2.2.2.2.1
  refine (congrArg (V m c main_v2) (funext fun a => Fin.ext ?_) : iblk m c 5 t (ix2 0 j) = V m c main_v2 (ix2 0 j)).trans ?_
  · match a with
    | ⟨0, _⟩ => show win0_5.index t 0 * 1 + 1 * 0 = 0; omega
    | ⟨1, _⟩ => show win0_5.index t 1 * 2048 + 1 * j.val = j.val; omega
  · exact V_v2 m c j

/-- A place of the block that a point makes, as a function of the arrays. -/
theorem block_eq (c : Dev nD) (t : Fin cfg0.N) (i : Fin 512) (j : Fin 2048) :
    lnAt (rowAt (iblk m c 0 t) (iblk m c 1 t) (iblk m c 2 t) (iblk m c 3 t) i) (iblk m c 4 t (ix2 0 j)) (iblk m c 5 t (ix2 0 j)) j
      = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (ix2 (row t i) j) := by
  refine lnAt_congr (fun k => ?_) (blk4 m c t j) (blk5 m c t j)
  simp only [rowAt, blk0, blk1, blk2, blk3]
  rfl

/-- What a point writes back, at either width, is its block of the whole result. -/
theorem flushed6_eq (c : Dev nD) (t : Fin cfg0.N) :
    (dats m 0 c).flushed 6 t = ((cfg0.win 6).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed6]
  have e := (idx_facts t).2.2.2.2.2.2.1
  refine funext fun y => ?_
  obtain ⟨i, j, rfl⟩ : ∃ (i : Fin 512) (j : Fin 2048), y = ix2 i j := ⟨y 0, y 1, eq_ix2 y⟩
  have he : ((cfg0.win 6).blk t).view.emb (ix2 i j) = (ix2 (row t i) j : S32768x2048.Idx) := by
    funext a
    refine Fin.ext ?_
    match a with
    | ⟨0, _⟩ => show win0_6.index t 0 * 512 + 1 * i.val = t.val * 512 + i.val; omega
    | ⟨1, _⟩ => show win0_6.index t 1 * 2048 + 1 * j.val = j.val; omega
  show out0_6 (F := Ideal) _ _ _ _ _ _ (ix2 i j) = G _ _ _ _ _ _ (((cfg0.win 6).blk t).view.emb (ix2 i j))
  rw [out6_apply, he]
  exact block_eq m c t i j

theorem flushed7_eq (c : Dev nD) (t : Fin cfg0.N) :
    (dats m 0 c).flushed 7 t = ((cfg0.win 7).blk t).view.read (Elt Ideal)
      (G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))) := by
  rw [Value.flushed7]
  have e := (idx_facts t).2.2.2.2.2.2.2
  refine funext fun y => ?_
  obtain ⟨i, j, rfl⟩ : ∃ (i : Fin 512) (j : Fin 2048), y = ix2 i j := ⟨y 0, y 1, eq_ix2 y⟩
  have he : ((cfg0.win 7).blk t).view.emb (ix2 i j) = (ix2 (row t i) j : S32768x2048.Idx) := by
    funext a
    refine Fin.ext ?_
    match a with
    | ⟨0, _⟩ => show win0_7.index t 0 * 512 + 1 * i.val = t.val * 512 + i.val; omega
    | ⟨1, _⟩ => show win0_7.index t 1 * 2048 + 1 * j.val = j.val; omega
  show out0_7 (F := Ideal) _ _ _ _ _ _ (ix2 i j) = G _ _ _ _ _ _ (((cfg0.win 7).blk t).view.emb (ix2 i j))
  rw [out7_apply, he]
  exact block_eq m c t i j

/-- The point whose block holds a row. -/
def pt (r : Fin 32768) : Fin cfg0.N := ⟨r.val / 512, by show r.val / 512 < 64; omega⟩

/-- Every place of the result arrays is in some point's block. -/
theorem covered6 (i : S32768x2048.Idx) :
    ∃ t : Fin cfg0.N, (cfg0.win 6).flush t = true ∧ i ∈ ((cfg0.win 6).blk t).view.set := by
  obtain ⟨r, j, rfl⟩ : ∃ (r : Fin 32768) (j : Fin 2048), i = ix2 r j := ⟨i 0, i 1, eq_ix2 i⟩
  refine ⟨pt r, flush0_6 _, ?_⟩
  have e := (idx_facts (pt r)).2.2.2.2.2.2.1
  have hv : (pt r).val = r.val / 512 := rfl
  have he : ((cfg0.win 6).blk (pt r)).view.emb (ix2 ⟨r.val % 512, Nat.mod_lt _ (by decide)⟩ j : S512x2048.Idx)
      = (ix2 r j : S32768x2048.Idx) := by
    funext a
    refine Fin.ext ?_
    match a with
    | ⟨0, _⟩ => show win0_6.index (pt r) 0 * 512 + 1 * (r.val % 512) = r.val; omega
    | ⟨1, _⟩ => show win0_6.index (pt r) 1 * 2048 + 1 * j.val = j.val; omega
  rw [← he]
  exact ((cfg0.win 6).blk (pt r)).view.emb_mem_set _

theorem covered7 (i : S32768x2048.Idx) :
    ∃ t : Fin cfg0.N, (cfg0.win 7).flush t = true ∧ i ∈ ((cfg0.win 7).blk t).view.set := by
  obtain ⟨r, j, rfl⟩ : ∃ (r : Fin 32768) (j : Fin 2048), i = ix2 r j := ⟨i 0, i 1, eq_ix2 i⟩
  refine ⟨pt r, flush0_7 _, ?_⟩
  have e := (idx_facts (pt r)).2.2.2.2.2.2.2
  have hv : (pt r).val = r.val / 512 := rfl
  have he : ((cfg0.win 7).blk (pt r)).view.emb (ix2 ⟨r.val % 512, Nat.mod_lt _ (by decide)⟩ j : S512x2048.Idx)
      = (ix2 r j : S32768x2048.Idx) := by
    funext a
    refine Fin.ext ?_
    match a with
    | ⟨0, _⟩ => show win0_7.index (pt r) 0 * 512 + 1 * (r.val % 512) = r.val; omega
    | ⟨1, _⟩ => show win0_7.index (pt r) 1 * 2048 + 1 * j.val = j.val; omega
  rw [← he]
  exact ((cfg0.win 7).blk (pt r)).view.emb_mem_set _

/-- The call's run, with both result arrays at their function of the arguments, and the arguments unchanged. -/
theorem run : θ_run defs (onTc (τ := τ) (main (F := Ideal))) ⟨m, fun _ => 0, ρ⟩ fun r => ∀ c : Dev nD,
      r.2.mem ((c : Thread nD τ).loc main_v3_0)
        = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_v3_1)
        = G (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((dats m 0 c).arrAt_eq_of_cover 6 _ (fun t _ => flushed6_eq m c t) covered6),
      (h c).2.1.trans ((dats m 0 c).arrAt_eq_of_cover 7 _ (fun t _ => flushed7_eq m c t) covered7), (h c).2.2⟩) (Value.run_blocks m ρ)

section Reference

open Cert.Reference4Ideal.Read

variable (u v : Vec Ideal S32768x1024 .bf16) (w : Vec Ideal S2048x2048 .f32) (r : Vec Ideal S32768x2048 .f32) (g b : Vec Ideal S2048 .f32)

theorem ref_left (p : Fin 32768) (l : Fin 1024) :
    val_main_v1 (F := Ideal) u v (ix2 p (⟨l.val, by omega⟩ : Fin 2048)) = u (ix2 p l) := by
  pointwise [val_main_v1, val_main_v0]

theorem ref_right (p : Fin 32768) (l : Fin 1024) :
    val_main_v1 (F := Ideal) u v (ix2 p (⟨1024 + l.val, by omega⟩ : Fin 2048)) = v (ix2 p l) := by
  pointwise [val_main_v1, val_main_v0]

theorem ref_row (p : Fin 32768) (k : Fin 2048) : val_main_v5 (F := Ideal) u v w r (ix2 p k) = rowAt u v w r p k := by
  have hs : ∑ l : Fin 2048, val_main_v1 (F := Ideal) u v (ix2 p l) * w (ix2 l k)
      = ∑ l : Fin 1024, u (ix2 p l) * w (ix2 (⟨l.val, by omega⟩ : Fin 2048) k)
        + ∑ l : Fin 1024, v (ix2 p l) * w (ix2 (⟨1024 + l.val, by omega⟩ : Fin 2048) k) := by
    refine (Fin.sum_univ_add (a := 1024) (b := 1024) fun l => val_main_v1 (F := Ideal) u v (ix2 p l) * w (ix2 l k)).trans ?_
    refine congrArg₂ (· + ·) (Finset.sum_congr rfl fun l _ => ?_) (Finset.sum_congr rfl fun l _ => ?_)
    · exact congrArg (· * _) (ref_left u v p l)
    · exact congrArg (· * _) (ref_right u v p l)
  rw [rowAt, ← hs]
  pointwise [val_main_v5, val_main_v4, val_main_v3, val_main_v2, val_main_cst]

/-- The reference, read at an index, is the same function. -/
theorem ref_eq : val_main_v29 (F := Ideal) u v w r g b = G u v w r g b := by
  funext i
  obtain ⟨p, j, rfl⟩ : ∃ (p : Fin 32768) (j : Fin 2048), i = ix2 p j := ⟨i 0, i 1, eq_ix2 i⟩
  have hy : ∀ k, val_main_v5 (F := Ideal) u v w r (ix2 p k) = rowAt u v w r p k := ref_row u v w r p
  pointwise [val_main_v29, val_main_v28, val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6,
    val_main_cst_0, val_main_cst_1, val_main_cst_2, val_main_cst_3, val_main_cst_4, hy, G, lnAt]

theorem ref_eq' : (val_main_v30 (F := Ideal) u v w r g b : S32768x2048.Idx → EReal) = G u v w r g b := by
  rw [← ref_eq]
  rfl

end Reference

end Cert.Outp

end
-- ==== Proof.lean ====
/- The claims, in the order in which `Cert.Claim` lists them. The mixer's run is Proof/Mix/Run.lean,
   its second result's value Proof/Mix/GlaMath.lean, GlaKernel.lean, GlaRun.lean, GlaEntry.lean and GlaLoop.lean; the down
   projection's value is Proof/Down/Value.lean, the up projection's Proof/Up/Value.lean and Proof/Up/Ref.lean, the
   output projection's Proof/Outp/Value.lean. -/
module

public import proofs.«01_k».proof.Defs
public import proofs.«01_k».proof.Proof.Gen.Kernel
public import proofs.«01_k».proof.Proof.Gen.KernelIdeal
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Mix.Run
public import proofs.«01_k».proof.Proof.Mix.GlaRun
public import proofs.«01_k».proof.Proof.Mix.GlaLoop
public import proofs.«01_k».proof.Proof.Down.Value
public import proofs.«01_k».proof.Proof.Up.Value
public import proofs.«01_k».proof.Proof.Up.Ref
public import proofs.«01_k».proof.Proof.Outp.Value
public import Idealize.ShloMosaic.Adequacy
public import Idealize.ShloMosaic.Init
public import Idealize.ShloMosaic.Lib.Quiescent

@[expose] public section

noncomputable section

namespace Cert.Proof

open Idealize.ShloMosaic Idealize.SL.Sem

/-! ## The mixer: its frames, and its second result's value -/

theorem frame_kernelIdeal : Cert.quiescent_KernelIdeal := fun m ρ _ => Cert.KernelIdeal.Mix.frame (F := Ideal) m ρ

/-- The kernel and its idealization have the same text, so the run above, at the float words, is this one's. -/
theorem frame_kernel : Cert.quiescent_Kernel := by
  intro m ρ _
  have h := Cert.KernelIdeal.Mix.frame (F := Bits) m ρ
  refine Eq.mp ?_ h
  sl_kernel_rfl

theorem frame_reference : Cert.quiescent_ReferenceIdeal := fun m ρ _ =>
  (θ_run Cert.ReferenceIdeal.defs _ _).mono
    (fun r h => ⟨fun c => (h c).2.2, sem_eq_zero_of_no_sems (by decide) r.2⟩)
    (Cert.ReferenceIdeal.Value.run (F := Ideal) m ρ)

theorem gated_facts : Cert.On_gated_part.Facts where
  bcast_S_S32768x1024 := by decide

/-- The second result, gated linear attention, at every place; the mask is nowhere set on the first. -/
theorem algebraic1 : Cert.algebraic_KernelIdeal_ReferenceIdeal_on_gated_part (hOn_gated_part := gated_facts) := by
  intro m g m' g' _ hargs
  refine ⟨fun c => m ((c.tc : Thread _ _).loc Cert.KernelIdeal.main_v61_0),
    fun c => Cert.Gla.G (m ((c.tc : Thread _ _).loc Cert.KernelIdeal.main_arg0)) (m ((c.tc : Thread _ _).loc Cert.KernelIdeal.main_arg1))
      (m ((c.tc : Thread _ _).loc Cert.KernelIdeal.main_arg3)), ?_, ?_⟩
  · refine (θ_run Cert.KernelIdeal.defs _ _).mono (fun r h c => ⟨fun i hi => ?_, fun i _ => ?_, (h c).2⟩) (Cert.KernelIdeal.Mix.run_gla m g)
    · exact absurd (show (0#1 : BitVec 1) = 1#1 from hi) (by decide)
    · rw [(h c).1]
  · refine (θ_run Cert.ReferenceIdeal.defs _ _).mono (fun r h c => ⟨fun i hi => ?_, fun i _ => ?_, (h c).2.2⟩) (Cert.ReferenceIdeal.Value.run_gla m' g')
    · exact absurd (show (0#1 : BitVec 1) = 1#1 from hi) (by decide)
    · obtain ⟨h0, h1, _, h3⟩ := hargs c
      rw [(h c).1, h0, h1, h3]

/-! ## The down projection: its frames and its value -/

theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

theorem algebraic2 : Cert.algebraic_Kernel2Ideal_Reference2Ideal := by
  intro m g m' g' _ hargs
  refine ⟨fun c => Cert.Down.G (m ((c.tc : Thread _ _).loc Cert.Kernel2Ideal.main_arg0)) (m ((c.tc : Thread _ _).loc Cert.Kernel2Ideal.main_arg1))
    (m ((c.tc : Thread _ _).loc Cert.Kernel2Ideal.main_arg2)) (m ((c.tc : Thread _ _).loc Cert.Kernel2Ideal.main_arg3))
    (m ((c.tc : Thread _ _).loc Cert.Kernel2Ideal.main_arg4)), Cert.Down.run m g, ?_⟩
  refine (θ_run Cert.Reference2Ideal.defs _ _).mono (fun r h c => ⟨?_, (h c).2⟩) (Cert.Reference2Ideal.Value.run (F := Ideal) m' g')
  obtain ⟨h0, h1, h2, h3, h4⟩ := hargs c
  rw [(h c).1, Cert.Reference2Ideal.Read.val_main_v28_eq, Cert.Down.ref_eq, h0, h1, h2, h3, h4]

/-! ## The up projection with its convolution and gate: its frames and its value -/

theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3 : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

theorem algebraic3 : Cert.algebraic_Kernel3Ideal_Reference3Ideal := by
  intro m g m' g' _ hargs
  refine ⟨fun c => Cert.Up.G (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)), Cert.Up.run m g, ?_⟩
  refine (θ_run Cert.Reference3Ideal.defs _ _).mono (fun r h c => ⟨?_, (h c).2⟩) (Cert.Reference3Ideal.Value.run (F := Ideal) m' g')
  obtain ⟨h0, h1, h2, h3⟩ := hargs c
  rw [(h c).1, Cert.Reference3Ideal.Read.val_main_v32_eq, Cert.Up.ref_eq, h0, h1, h2, h3]

/-! ## The output projection: its frames and its two values -/

theorem frame_kernel4 : Cert.quiescent_Kernel4 := fun m ρ _ => Cert.Kernel4.Gen.frame m ρ

theorem frame_kernel4Ideal : Cert.quiescent_Kernel4Ideal := fun m ρ _ => Cert.Kernel4Ideal.Gen.frame m ρ

theorem frame_reference4 : Cert.quiescent_Reference4Ideal := fun m ρ _ =>
  (θ_run Cert.Reference4Ideal.defs _ _).mono
    (fun r h => ⟨fun c => (h c).2.2, sem_eq_zero_of_no_sems (by decide) r.2⟩)
    (Cert.Reference4Ideal.Value.run (F := Ideal) m ρ)

theorem algebraic4 : Cert.algebraic_Kernel4Ideal_Reference4Ideal := by
  intro m g m' g' _ hargs
  refine ⟨fun c => Cert.Outp.G (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)),
    fun c => Cert.Outp.G (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)) (m ((c.tc : Thread _ _).loc Cert.Kernel4Ideal.main_arg4)) (m ((c.tc : Thread _ _).loc Cert.Kernel4Ideal.main_arg5)), Cert.Outp.run m g, ?_⟩
  refine (θ_run Cert.Reference4Ideal.defs _ _).mono (fun r h c => ⟨?_, ?_, (h c).2.2⟩) (Cert.Reference4Ideal.Value.run (F := Ideal) m' g')
  · obtain ⟨h0, h1, h2, h3, h4, h5⟩ := hargs c
    rw [(h c).1, Cert.Reference4Ideal.Read.val_main_v29_eq, Cert.Outp.ref_eq, h0, h1, h2, h3, h4, h5]
  · obtain ⟨h0, h1, h2, h3, h4, h5⟩ := hargs c
    rw [(h c).2.1, Cert.Reference4Ideal.Read.val_main_v30_eq, h0, h1, h2, h3, h4, h5]
    exact Cert.Outp.ref_eq' _ _ _ _ _ _

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, gated_facts,
    frame_kernel, frame_kernelIdeal, frame_reference, frame_kernel2, frame_kernel2Ideal, frame_reference2,
    frame_kernel3, frame_kernel3Ideal, frame_reference3, frame_kernel4, frame_kernel4Ideal, frame_reference4,
    trivial, algebraic1, trivial, algebraic2, trivial, algebraic3, trivial, algebraic4⟩

end Cert.Proof

end
